-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tables_finite [hPre_tables_finite : Cert.Pre_tables_finite.Facts] (m : (ℓ : Loc Cert.KernelIdeal.nD Cert.KernelIdeal.τ Cert.KernelIdeal.sig) → Buf (Elt Ideal) ℓ) : Prop :=
  ∀ c : Dev Cert.KernelIdeal.nD,
    (Cert.Pre_tables_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_finite [hPre_tables_finite : Cert.Pre_tables_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_stats_of_rows [hPre_stats_of_rows : Cert.Pre_stats_of_rows.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_stats_of_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_stats_of_rows [hPre_stats_of_rows : Cert.Pre_stats_of_rows.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_stats_of_rows.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_tables_finite [hKernelIdeal : Cert.KernelIdeal.Facts] [hPre_tables_finite : Cert.Pre_tables_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tables_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tables_finite [hReferenceIdeal : Cert.ReferenceIdeal.Facts] [hPre_tables_finite : Cert.Pre_tables_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_stats_of_rows [hKernel2Ideal : Cert.Kernel2Ideal.Facts] [hPre_stats_of_rows : Cert.Pre_stats_of_rows.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_stats_of_rows m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_stats_of_rows [hReference2Ideal : Cert.Reference2Ideal.Facts] [hPre_stats_of_rows : Cert.Pre_stats_of_rows.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_stats_of_rows m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  True

def algebraic_KernelIdeal_ReferenceIdeal_pre_tables_finite [hKernelIdeal : Cert.KernelIdeal.Facts] [hReferenceIdeal : Cert.ReferenceIdeal.Facts] [hPre_tables_finite : Cert.Pre_tables_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tables_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v56_0)) (v1 : (c : Dev Cert.KernelIdeal.nD) → Buf (Elt Ideal) ((c.tc : Thread Cert.KernelIdeal.nD Cert.KernelIdeal.τ).loc Cert.KernelIdeal.main_v56_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56_0) = v0 c
          ∧ r.2.mem ((c.tc : Thread Cert.KernelIdeal.nD Cert.KernelIdeal.τ).loc Cert.KernelIdeal.main_v56_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_stats_of_rows [hKernel2Ideal : Cert.Kernel2Ideal.Facts] [hReference2Ideal : Cert.Reference2Ideal.Facts] [hPre_stats_of_rows : Cert.Pre_stats_of_rows.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_stats_of_rows m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v22_0)) (v1 : (c : Dev Cert.Kernel3Ideal.nD) → Buf (Elt Ideal) ((c.tc : Thread Cert.Kernel3Ideal.nD Cert.Kernel3Ideal.τ).loc Cert.Kernel3Ideal.main_v22_1)) (v2 : (c : Dev Cert.Kernel3Ideal.nD) → Buf (Elt Ideal) ((c.tc : Thread Cert.Kernel3Ideal.nD Cert.Kernel3Ideal.τ).loc Cert.Kernel3Ideal.main_v22_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22_0) = v0 c
          ∧ r.2.mem ((c.tc : Thread Cert.Kernel3Ideal.nD Cert.Kernel3Ideal.τ).loc Cert.Kernel3Ideal.main_v22_1) = v1 c
          ∧ r.2.mem ((c.tc : Thread Cert.Kernel3Ideal.nD Cert.Kernel3Ideal.τ).loc Cert.Kernel3Ideal.main_v22_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_v23) = v1 c
          ∧ r.2.mem ((c.tc : Thread Cert.Reference3Ideal.nD Cert.Reference3Ideal.τ).loc Cert.Reference3Ideal.main_v24) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_tables_finite : Cert.Pre_tables_finite.Facts) (hPre_stats_of_rows : Cert.Pre_stats_of_rows.Facts),
    quiescent_Kernel (hKernel := hKernel)
    ∧ quiescent_KernelIdeal (hKernelIdeal := hKernelIdeal)
    ∧ quiescent_KernelIdeal_pre_tables_finite (hKernelIdeal := hKernelIdeal) (hPre_tables_finite := hPre_tables_finite)
    ∧ quiescent_ReferenceIdeal (hReferenceIdeal := hReferenceIdeal)
    ∧ quiescent_ReferenceIdeal_pre_tables_finite (hReferenceIdeal := hReferenceIdeal) (hPre_tables_finite := hPre_tables_finite)
    ∧ quiescent_Kernel2 (hKernel2 := hKernel2)
    ∧ quiescent_Kernel2Ideal (hKernel2Ideal := hKernel2Ideal)
    ∧ quiescent_Kernel2Ideal_pre_stats_of_rows (hKernel2Ideal := hKernel2Ideal) (hPre_stats_of_rows := hPre_stats_of_rows)
    ∧ quiescent_Reference2Ideal (hReference2Ideal := hReference2Ideal)
    ∧ quiescent_Reference2Ideal_pre_stats_of_rows (hReference2Ideal := hReference2Ideal) (hPre_stats_of_rows := hPre_stats_of_rows)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_tables_finite (hKernelIdeal := hKernelIdeal) (hReferenceIdeal := hReferenceIdeal) (hPre_tables_finite := hPre_tables_finite)
    ∧ preserves_Kernel2_Kernel2Ideal
    ∧ algebraic_Kernel2Ideal_Reference2Ideal_pre_stats_of_rows (hKernel2Ideal := hKernel2Ideal) (hReference2Ideal := hReference2Ideal) (hPre_stats_of_rows := hPre_stats_of_rows)
    ∧ preserves_Kernel3_Kernel3Ideal
    ∧ algebraic_Kernel3Ideal_Reference3Ideal (hKernel3Ideal := hKernel3Ideal) (hReference3Ideal := hReference3Ideal)
-- ==== Pre_stats_of_rows.lean ====
abbrev S4x784x128 : Shape := ⟨3, ![4, 784, 128]⟩
abbrev S8x128 : Shape := ⟨2, ![8, 128]⟩
abbrev S128 : Shape := ⟨1, ![128]⟩
abbrev S_ : Shape := ⟨0, ![]⟩
abbrev S1x128 : Shape := ⟨2, ![1, 128]⟩

class Facts : Prop where
  bcast_S_S4x784x128 : S_.BroadcastsInDim S4x784x128 (![] : Fin 0 → Fin S4x784x128.rank)
  reducesTo_S4x784x128_S_d0_1_2 : S4x784x128.ReducesTo [0, 1, 2] S_
  h_S_ : 0 < S_.numel
  bcast_S_S128 : S_.BroadcastsInDim S128 (![] : Fin 0 → Fin S128.rank)
  reducesTo_S128_S_d0 : S128.ReducesTo [0] S_
  slices_S8x128_S1x128_0_0 : S8x128.Slices ![0, 0] S1x128
  shapeCasts_S1x128_S128 : S1x128.ShapeCasts S128
  reducesTo_S4x784x128_S128_d0_1 : S4x784x128.ReducesTo [0, 1] S128
  slices_S8x128_S1x128_1_0 : S8x128.Slices ![1, 0] S1x128

variable [Facts]

def fn_part1 {F : FTy → Type} [FloatOps F] (main_v8 : IVec S_ 1) (main_v13 : IVec S_ 1) (main_v15 : FVec F S128 .f32) (main_v16 : FVec F S4x784x128 .f32) (main_cst_4 : FVec F S_ .f32) : IVec S_ 1 :=
  let main_v17 : FVec F S128 .f32 := (fun x v => Host.reduceAdd x v reducesTo_S4x784x128_S128_d0_1 h_S_) main_v16 main_cst_4
  let main_v18 : IVec S128 1 := cmpf .oeq main_v15 main_v17
  let main_c_5 : IVec S_ 1 := constantI S_ 1 1#1
  let main_v19 : IVec S_ 1 := (fun x v => Host.reduce IntOp.andi x v reducesTo_S128_S_d0 h_S_) main_v18 main_c_5
  let main_v20 : IVec S_ 1 := andi main_v8 main_v13
  let main_v21 : IVec S_ 1 := andi main_v20 main_v19
  main_v21

def fn {F : FTy → Type} [FloatOps F] (main_arg0 : FVec F S4x784x128 .f32) (main_arg1 : FVec F S8x128 .f32) (main_arg2 : FVec F S128 .f32) (main_arg3 : FVec F S128 .f32) : IVec S_ 1 :=
  let main_v0 : FVec F S4x784x128 .f32 := Host.absf main_arg0
  let main_cst : FVec F S_ .f32 := constant S_ .f32 0x7F800000#32
  let main_v1 : FVec F S4x784x128 .f32 := broadcastInDim S4x784x128 ![] bcast_S_S4x784x128 main_cst
  let main_v2 : IVec S4x784x128 1 := cmpf .olt main_v0 main_v1
  let main_c : IVec S_ 1 := constantI S_ 1 1#1
  let main_v3 : IVec S_ 1 := (fun x v => Host.reduce IntOp.andi x v reducesTo_S4x784x128_S_d0_1_2 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S1x128 .f32 := (extractStridedSlice S1x128 ![0, 0] · slices_S8x128_S1x128_0_0) main_arg1
  let main_v10 : FVec F S128 .f32 := shapeCast S128 main_v9 shapeCasts_S1x128_S128
  let main_cst_2 : FVec F S_ .f32 := constant S_ .f32 0x00000000#32
  let main_v11 : FVec F S128 .f32 := (fun x v => Host.reduceAdd x v reducesTo_S4x784x128_S128_d0_1 h_S_) main_arg0 main_cst_2
  let main_v12 : IVec S128 1 := cmpf .oeq main_v10 main_v11
  let main_c_3 : IVec S_ 1 := constantI S_ 1 1#1
  let main_v13 : IVec S_ 1 := (fun x v => Host.reduce IntOp.andi x v reducesTo_S128_S_d0 h_S_) main_v12 main_c_3
  let main_v14 : FVec F S1x128 .f32 := (extractStridedSlice S1x128 ![1, 0] · slices_S8x128_S1x128_1_0) main_arg1
  let main_v15 : FVec F S128 .f32 := shapeCast S128 main_v14 shapeCasts_S1x128_S128
  let main_v16 : FVec F S4x784x128 .f32 := mulf main_arg0 main_arg0
  let main_cst_4 : FVec F S_ .f32 := constant S_ .f32 0x00000000#32
  fn_part1 (F := F) main_v8 main_v13 main_v15 main_v16 main_cst_4
-- ==== Pre_tables_finite.lean ====
abbrev S3136x576 : Shape := ⟨2, ![3136, 576]⟩
abbrev S512x576 : Shape := ⟨2, ![512, 576]⟩
abbrev S512x128 : Shape := ⟨2, ![512, 128]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel

variable [Facts]

def fn {F : FTy → Type} [FloatOps F] (main_arg0 : FVec F S3136x576 .f32) (main_arg1 : FVec F S512x576 .f32) (main_arg2 : FVec F S512x576 .f32) (main_arg3 : FVec F S512x128 .f32) (main_arg4 : FVec F S512x128 .f32) : IVec S_ 1 :=
  let main_v0 : FVec F S512x128 .f32 := Host.absf main_arg3
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  let main_v4 : FVec F S512x128 .f32 := Host.absf main_arg4
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  main_v8
-- ==== Kernel.lean ====
abbrev S3136x576 : Shape := ⟨2, ![3136, 576]⟩
abbrev S512x576 : Shape := ⟨2, ![512, 576]⟩
abbrev S512x128 : Shape := ⟨2, ![512, 128]⟩
abbrev S576x512 : Shape := ⟨2, ![576, 512]⟩
abbrev S36x16x512 : Shape := ⟨3, ![36, 16, 512]⟩
abbrev S1x512x576 : Shape := ⟨3, ![1, 512, 576]⟩
abbrev S3x512x576 : Shape := ⟨3, ![3, 512, 576]⟩
abbrev S1x512x128 : Shape := ⟨3, ![1, 512, 128]⟩
abbrev S3x512x128 : Shape := ⟨3, ![3, 512, 128]⟩
abbrev S3136x128 : Shape := ⟨2, ![3136, 128]⟩
abbrev S8x128 : Shape := ⟨2, ![8, 128]⟩
abbrev S64x576 : Shape := ⟨2, ![64, 576]⟩
abbrev S64x128 : Shape := ⟨2, ![64, 128]⟩
abbrev S36x64x16 : Shape := ⟨3, ![36, 64, 16]⟩
abbrev S64x512 : Shape := ⟨2, ![64, 512]⟩
abbrev S64x16 : Shape := ⟨2, ![64, 16]⟩
abbrev S1x64x16 : Shape := ⟨3, ![1, 64, 16]⟩
abbrev S1x16x512 : Shape := ⟨3, ![1, 16, 512]⟩
abbrev S16x512 : Shape := ⟨2, ![16, 512]⟩
abbrev S64x1 : Shape := ⟨2, ![64, 1]⟩
abbrev S1x512 : Shape := ⟨2, ![1, 512]⟩
abbrev S64 : Shape := ⟨1, ![64]⟩
abbrev S128 : Shape := ⟨1, ![128]⟩
abbrev S1x128 : Shape := ⟨2, ![1, 128]⟩
abbrev S6x128 : Shape := ⟨2, ![6, 128]⟩

abbrev nBuf : Space → Nat
  | .hbm => 63
  | .vmem => 14
  | .smem => 0
  | _ => 0

abbrev bufTy : (tb : Table) → Fin (tcTables nBuf tb) → BufTy
  | .hbm, ⟨0, _⟩ => ⟨S3136x576, .f32⟩
  | .hbm, ⟨1, _⟩ => ⟨S512x576, .f32⟩
  | .hbm, ⟨2, _⟩ => ⟨S512x576, .f32⟩
  | .hbm, ⟨3, _⟩ => ⟨S512x128, .f32⟩
  | .hbm, ⟨4, _⟩ => ⟨S512x128, .f32⟩
  | .hbm, ⟨5, _⟩ => ⟨S576x512, .f32⟩
  | .hbm, ⟨6, _⟩ => ⟨S36x16x512, .f32⟩
  | .hbm, ⟨7, _⟩ => ⟨S576x512, .f32⟩
  | .hbm, ⟨8, _⟩ => ⟨S36x16x512, .f32⟩
  | .hbm, ⟨9, _⟩ => ⟨S512x576, .bf16⟩
  | .hbm, ⟨10, _⟩ => ⟨S512x576, .f32⟩
  | .hbm, ⟨11, _⟩ => ⟨S512x576, .f32⟩
  | .hbm, ⟨12, _⟩ => ⟨S512x576, .bf16⟩
  | .hbm, ⟨13, _⟩ => ⟨S512x576, .f32⟩
  | .hbm, ⟨14, _⟩ => ⟨S512x576, .f32⟩
  | .hbm, ⟨15, _⟩ => ⟨S512x576, .bf16⟩
  | .hbm, ⟨16, _⟩ => ⟨S512x576, .bf16⟩
  | .hbm, ⟨17, _⟩ => ⟨S512x576, .bf16⟩
  | .hbm, ⟨18, _⟩ => ⟨S1x512x576, .bf16⟩
  | .hbm, ⟨19, _⟩ => ⟨S1x512x576, .bf16⟩
  | .hbm, ⟨20, _⟩ => ⟨S1x512x576, .bf16⟩
  | .hbm, ⟨21, _⟩ => ⟨S3x512x576, .bf16⟩
  | .hbm, ⟨22, _⟩ => ⟨S512x576, .bf16⟩
  | .hbm, ⟨23, _⟩ => ⟨S512x576, .f32⟩
  | .hbm, ⟨24, _⟩ => ⟨S512x576, .f32⟩
  | .hbm, ⟨25, _⟩ => ⟨S512x576, .bf16⟩
  | .hbm, ⟨26, _⟩ => ⟨S512x576, .f32⟩
  | .hbm, ⟨27, _⟩ => ⟨S512x576, .f32⟩
  | .hbm, ⟨28, _⟩ => ⟨S512x576, .bf16⟩
  | .hbm, ⟨29, _⟩ => ⟨S512x576, .bf16⟩
  | .hbm, ⟨30, _⟩ => ⟨S512x576, .bf16⟩
  | .hbm, ⟨31, _⟩ => ⟨S1x512x576, .bf16⟩
  | .hbm, ⟨32, _⟩ => ⟨S1x512x576, .bf16⟩
  | .hbm, ⟨33, _⟩ => ⟨S1x512x576, .bf16⟩
  | .hbm, ⟨34, _⟩ => ⟨S3x512x576, .bf16⟩
  | .hbm, ⟨35, _⟩ => ⟨S512x128, .bf16⟩
  | .hbm, ⟨36, _⟩ => ⟨S512x128, .f32⟩
  | .hbm, ⟨37, _⟩ => ⟨S512x128, .f32⟩
  | .hbm, ⟨38, _⟩ => ⟨S512x128, .bf16⟩
  | .hbm, ⟨39, _⟩ => ⟨S512x128, .f32⟩
  | .hbm, ⟨40, _⟩ => ⟨S512x128, .f32⟩
  | .hbm, ⟨41, _⟩ => ⟨S512x128, .bf16⟩
  | .hbm, ⟨42, _⟩ => ⟨S512x128, .bf16⟩
  | .hbm, ⟨43, _⟩ => ⟨S512x128, .bf16⟩
  | .hbm, ⟨44, _⟩ => ⟨S1x512x128, .bf16⟩
  | .hbm, ⟨45, _⟩ => ⟨S1x512x128, .bf16⟩
  | .hbm, ⟨46, _⟩ => ⟨S1x512x128, .bf16⟩
  | .hbm, ⟨47, _⟩ => ⟨S3x512x128, .bf16⟩
  | .hbm, ⟨48, _⟩ => ⟨S512x128, .bf16⟩
  | .hbm, ⟨49, _⟩ => ⟨S512x128, .f32⟩
  | .hbm, ⟨50, _⟩ => ⟨S512x128, .f32⟩
  | .hbm, ⟨51, _⟩ => ⟨S512x128, .bf16⟩
  | .hbm, ⟨52, _⟩ => ⟨S512x128, .f32⟩
  | .hbm, ⟨53, _⟩ => ⟨S512x128, .f32⟩
  | .hbm, ⟨54, _⟩ => ⟨S512x128, .bf16⟩
  | .hbm, ⟨55, _⟩ => ⟨S512x128, .bf16⟩
  | .hbm, ⟨56, _⟩ => ⟨S512x128, .bf16⟩
  | .hbm, ⟨57, _⟩ => ⟨S1x512x128, .bf16⟩
  | .hbm, ⟨58, _⟩ => ⟨S1x512x128, .bf16⟩
  | .hbm, ⟨59, _⟩ => ⟨S1x512x128, .bf16⟩
  | .hbm, ⟨60, _⟩ => ⟨S3x512x128, .bf16⟩
  | .hbm, ⟨61, _⟩ => ⟨S3136x128, .f32⟩
  | .hbm, ⟨62, _⟩ => ⟨S8x128, .f32⟩
  | .local _ .vmem, ⟨0, _⟩ => ⟨S64x576, .f32⟩
  | .local _ .vmem, ⟨1, _⟩ => ⟨S64x576, .f32⟩
  | .local _ .vmem, ⟨2, _⟩ => ⟨S36x16x512, .f32⟩
  | .local _ .vmem, ⟨3, _⟩ => ⟨S36x16x512, .f32⟩
  | .local _ .vmem, ⟨4, _⟩ => ⟨S3x512x576, .bf16⟩
  | .local _ .vmem, ⟨5, _⟩ => ⟨S3x512x576, .bf16⟩
  | .local _ .vmem, ⟨6, _⟩ => ⟨S3x512x128, .bf16⟩
  | .local _ .vmem, ⟨7, _⟩ => ⟨S3x512x128, .bf16⟩
  | .local _ .vmem, ⟨8, _⟩ => ⟨S64x128, .f32⟩
  | .local _ .vmem, ⟨9, _⟩ => ⟨S64x128, .f32⟩
  | .local _ .vmem, ⟨10, _⟩ => ⟨S8x128, .f32⟩
  | .local _ .vmem, ⟨11, _⟩ => ⟨S36x64x16, .f32⟩
  | .local _ .vmem, ⟨12, _⟩ => ⟨S64x576, .f32⟩
  | .local _ .vmem, ⟨13, _⟩ => ⟨S8x128, .f32⟩
  | _, _ => ⟨S3136x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56_0 : Ref sig .tc := ⟨.hbm, 61, rfl⟩
abbrev main_v56_1 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10

abbrev nD : Nat := 1
abbrev τ : Topo := Topo.v7x

variable {F : FTy → Type} [FloatOps F]

abbrev grid0 : Pipeline.Grid := ⟨1, ![49], ![false]⟩

def k0_cond2 (i : grid0.Coords) : BitVec 1 :=
  let arg0 : BitVec 32 := BitVec.ofNat 32 (i 0).val
  let c48_i32 : BitVec 32 := 48#32
  let v8829 : BitVec 1 := Scalar.cmpi .eq arg0 c48_i32
  let v8830 : BitVec 32 := Scalar.extui v8829
  let c0_i32_758 : BitVec 32 := 0#32
  let v8831 : BitVec 1 := Scalar.cmpi .ne v8830 c0_i32_758
  v8831

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S36x16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S36x16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x512x576 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x512x576 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S3136x576 : Shape := ⟨2, ![3136, 576]⟩
abbrev S512x576 : Shape := ⟨2, ![512, 576]⟩
abbrev S512x128 : Shape := ⟨2, ![512, 128]⟩
abbrev S4x784x576 : Shape := ⟨3, ![4, 784, 576]⟩
abbrev S4x784x1x576 : Shape := ⟨4, ![4, 784, 1, 576]⟩
abbrev S1x1x512x576 : Shape := ⟨4, ![1, 1, 512, 576]⟩
abbrev S4x784x512x576 : Shape := ⟨4, ![4, 784, 512, 576]⟩
abbrev S_ : Shape := ⟨0, ![]⟩
abbrev S4x784x512 : Shape := ⟨3, ![4, 784, 512]⟩
abbrev S4x784 : Shape := ⟨2, ![4, 784]⟩
abbrev S4x784x1 : Shape := ⟨3, ![4, 784, 1]⟩
abbrev S4x784x128 : Shape := ⟨3, ![4, 784, 128]⟩
abbrev S128 : Shape := ⟨1, ![128]⟩
abbrev S1x128 : Shape := ⟨2, ![1, 128]⟩
abbrev S6x128 : Shape := ⟨2, ![6, 128]⟩
abbrev S8x128 : Shape := ⟨2, ![8, 128]⟩
abbrev S3136x128 : Shape := ⟨2, ![3136, 128]⟩

abbrev nBuf : Space → Nat
  | .hbm => 72
  | .vmem => 0
  | .smem => 0
  | _ => 0

abbrev bufTy : (tb : Table) → Fin (tcTables nBuf tb) → BufTy
  | .hbm, ⟨0, _⟩ => ⟨S3136x576, .f32⟩
  | .hbm, ⟨1, _⟩ => ⟨S512x576, .f32⟩
  | .hbm, ⟨2, _⟩ => ⟨S512x576, .f32⟩
  | .hbm, ⟨3, _⟩ => ⟨S512x128, .f32⟩
  | .hbm, ⟨4, _⟩ => ⟨S512x128, .f32⟩
  | .hbm, ⟨5, _⟩ => ⟨S4x784x576, .f32⟩
  | .hbm, ⟨6, _⟩ => ⟨S4x784x1x576, .f32⟩
  | .hbm, ⟨7, _⟩ => ⟨S1x1x512x576, .f32⟩
  | .hbm, ⟨8, _⟩ => ⟨S4x784x512x576, .f32⟩
  | .hbm, ⟨9, _⟩ => ⟨S4x784x512x576, .f32⟩
  | .hbm, ⟨10, _⟩ => ⟨S4x784x512x576, .f32⟩
  | .hbm, ⟨11, _⟩ => ⟨S4x784x512x576, .f32⟩
  | .hbm, ⟨12, _⟩ => ⟨S_, .f32⟩
  | .hbm, ⟨13, _⟩ => ⟨S4x784x512, .f32⟩
  | .hbm, ⟨14, _⟩ => ⟨S4x784x512, .i32⟩
  | .hbm, ⟨15, _⟩ => ⟨S_, .f32⟩
  | .hbm, ⟨16, _⟩ => ⟨S_, .i32⟩
  | .hbm, ⟨17, _⟩ => ⟨S4x784, .f32⟩
  | .hbm, ⟨18, _⟩ => ⟨S4x784, .i32⟩
  | .hbm, ⟨19, _⟩ => ⟨S_, .i32⟩
  | .hbm, ⟨20, _⟩ => ⟨S4x784, .i32⟩
  | .hbm, ⟨21, _⟩ => ⟨S4x784, .i1⟩
  | .hbm, ⟨22, _⟩ => ⟨S_, .i32⟩
  | .hbm, ⟨23, _⟩ => ⟨S4x784, .i32⟩
  | .hbm, ⟨24, _⟩ => ⟨S4x784, .i32⟩
  | .hbm, ⟨25, _⟩ => ⟨S4x784, .i32⟩
  | .hbm, ⟨26, _⟩ => ⟨S4x784x1, .i32⟩
  | .hbm, ⟨27, _⟩ => ⟨S4x784x576, .f32⟩
  | .hbm, ⟨28, _⟩ => ⟨S4x784x576, .f32⟩
  | .hbm, ⟨29, _⟩ => ⟨S4x784x1x576, .f32⟩
  | .hbm, ⟨30, _⟩ => ⟨S1x1x512x576, .f32⟩
  | .hbm, ⟨31, _⟩ => ⟨S4x784x512x576, .f32⟩
  | .hbm, ⟨32, _⟩ => ⟨S4x784x512x576, .f32⟩
  | .hbm, ⟨33, _⟩ => ⟨S4x784x512x576, .f32⟩
  | .hbm, ⟨34, _⟩ => ⟨S4x784x512x576, .f32⟩
  | .hbm, ⟨35, _⟩ => ⟨S_, .f32⟩
  | .hbm, ⟨36, _⟩ => ⟨S4x784x512, .f32⟩
  | .hbm, ⟨37, _⟩ => ⟨S4x784x512, .i32⟩
  | .hbm, ⟨38, _⟩ => ⟨S_, .f32⟩
  | .hbm, ⟨39, _⟩ => ⟨S_, .i32⟩
  | .hbm, ⟨40, _⟩ => ⟨S4x784, .f32⟩
  | .hbm, ⟨41, _⟩ => ⟨S4x784, .i32⟩
  | .hbm, ⟨42, _⟩ => ⟨S_, .i32⟩
  | .hbm, ⟨43, _⟩ => ⟨S4x784, .i32⟩
  | .hbm, ⟨44, _⟩ => ⟨S4x784, .i1⟩
  | .hbm, ⟨45, _⟩ => ⟨S_, .i32⟩
  | .hbm, ⟨46, _⟩ => ⟨S4x784, .i32⟩
  | .hbm, ⟨47, _⟩ => ⟨S4x784, .i32⟩
  | .hbm, ⟨48, _⟩ => ⟨S4x784, .i32⟩
  | .hbm, ⟨49, _⟩ => ⟨S4x784x1, .i32⟩
  | .hbm, ⟨50, _⟩ => ⟨S4x784x128, .f32⟩
  | .hbm, ⟨51, _⟩ => ⟨S_, .i32⟩
  | .hbm, ⟨52, _⟩ => ⟨S4x784, .i32⟩
  | .hbm, ⟨53, _⟩ => ⟨S4x784, .i1⟩
  | .hbm, ⟨54, _⟩ => ⟨S_, .i32⟩
  | .hbm, ⟨55, _⟩ => ⟨S4x784, .i32⟩
  | .hbm, ⟨56, _⟩ => ⟨S4x784, .i32⟩
  | .hbm, ⟨57, _⟩ => ⟨S4x784, .i32⟩
  | .hbm, ⟨58, _⟩ => ⟨S4x784x1, .i32⟩
  | .hbm, ⟨59, _⟩ => ⟨S4x784x128, .f32⟩
  | .hbm, ⟨60, _⟩ => ⟨S4x784x128, .f32⟩
  | .hbm, ⟨61, _⟩ => ⟨S_, .f32⟩
  | .hbm, ⟨62, _⟩ => ⟨S128, .f32⟩
  | .hbm, ⟨63, _⟩ => ⟨S4x784x128, .f32⟩
  | .hbm, ⟨64, _⟩ => ⟨S_, .f32⟩
  | .hbm, ⟨65, _⟩ => ⟨S128, .f32⟩
  | .hbm, ⟨66, _⟩ => ⟨S1x128, .f32⟩
  | .hbm, ⟨67, _⟩ => ⟨S1x128, .f32⟩
  | .hbm, ⟨68, _⟩ => ⟨S_, .f32⟩
  | .hbm, ⟨69, _⟩ => ⟨S6x128, .f32⟩
  | .hbm, ⟨70, _⟩ => ⟨S8x128, .f32⟩
  | .hbm, ⟨71, _⟩ => ⟨S3136x128, .f32⟩
  | _, _ => ⟨S3136x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_call0_v0 : Ref sig .tc := ⟨.hbm, 14, rfl⟩
abbrev main_call0_cst : Ref sig .tc := ⟨.hbm, 15, rfl⟩
abbrev main_call0_c : Ref sig .tc := ⟨.hbm, 16, rfl⟩
abbrev main_call0_v1_0 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_call1_v0 : Ref sig .tc := ⟨.hbm, 37, rfl⟩
abbrev main_call1_cst : Ref sig .tc := ⟨.hbm, 38, rfl⟩
abbrev main_call1_c : Ref sig .tc := ⟨.hbm, 39, rfl⟩
abbrev main_call1_v1_0 : Ref sig .tc := ⟨.hbm, 40, rfl⟩
abbrev main_v24 : Ref sig .tc := ⟨.hbm, 41, rfl⟩
abbrev main_c_2 : Ref sig .tc := ⟨.hbm, 42, rfl⟩
abbrev main_v25 : Ref sig .tc := ⟨.hbm, 43, rfl⟩
abbrev main_v26 : Ref sig .tc := ⟨.hbm, 44, rfl⟩
abbrev main_c_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]
-- ==== Kernel2.lean ====
abbrev S4x784x128 : Shape := ⟨3, ![4, 784, 128]⟩
abbrev S8x128 : Shape := ⟨2, ![8, 128]⟩
abbrev S128 : Shape := ⟨1, ![128]⟩
abbrev S1x128 : Shape := ⟨2, ![1, 128]⟩
abbrev S4x128x784 : Shape := ⟨3, ![4, 128, 784]⟩
abbrev S1x784x128 : Shape := ⟨3, ![1, 784, 128]⟩
abbrev S1x128x784 : Shape := ⟨3, ![1, 128, 784]⟩
abbrev S784x128 : Shape := ⟨2, ![784, 128]⟩
abbrev S128x784 : Shape := ⟨2, ![128, 784]⟩

abbrev nBuf : Space → Nat
  | .hbm => 7
  | .vmem => 7
  | .smem => 0
  | _ => 0

abbrev bufTy : (tb : Table) → Fin (tcTables nBuf tb) → BufTy
  | .hbm, ⟨0, _⟩ => ⟨S4x784x128, .f32⟩
  | .hbm, ⟨1, _⟩ => ⟨S8x128, .f32⟩
  | .hbm, ⟨2, _⟩ => ⟨S128, .f32⟩
  | .hbm, ⟨3, _⟩ => ⟨S128, .f32⟩
  | .hbm, ⟨4, _⟩ => ⟨S1x128, .f32⟩
  | .hbm, ⟨5, _⟩ => ⟨S1x128, .f32⟩
  | .hbm, ⟨6, _⟩ => ⟨S4x128x784, .f32⟩
  | .local _ .vmem, ⟨0, _⟩ => ⟨S1x784x128, .f32⟩
  | .local _ .vmem, ⟨1, _⟩ => ⟨S1x784x128, .f32⟩
  | .local _ .vmem, ⟨2, _⟩ => ⟨S8x128, .f32⟩
  | .local _ .vmem, ⟨3, _⟩ => ⟨S1x128, .f32⟩
  | .local _ .vmem, ⟨4, _⟩ => ⟨S1x128, .f32⟩
  | .local _ .vmem, ⟨5, _⟩ => ⟨S1x128x784, .f32⟩
  | .local _ .vmem, ⟨6, _⟩ => ⟨S1x128x784, .f32⟩
  | _, _ => ⟨S4x784x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x784x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128x784 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S4x784x128 : Shape := ⟨3, ![4, 784, 128]⟩
abbrev S8x128 : Shape := ⟨2, ![8, 128]⟩
abbrev S128 : Shape := ⟨1, ![128]⟩
abbrev S4x128x784 : Shape := ⟨3, ![4, 128, 784]⟩
abbrev S_ : Shape := ⟨0, ![]⟩
abbrev S1x128x1 : Shape := ⟨3, ![1, 128, 1]⟩

abbrev nBuf : Space → Nat
  | .hbm => 49
  | .vmem => 0
  | .smem => 0
  | _ => 0

abbrev bufTy : (tb : Table) → Fin (tcTables nBuf tb) → BufTy
  | .hbm, ⟨0, _⟩ => ⟨S4x784x128, .f32⟩
  | .hbm, ⟨1, _⟩ => ⟨S8x128, .f32⟩
  | .hbm, ⟨2, _⟩ => ⟨S128, .f32⟩
  | .hbm, ⟨3, _⟩ => ⟨S128, .f32⟩
  | .hbm, ⟨4, _⟩ => ⟨S4x128x784, .f32⟩
  | .hbm, ⟨5, _⟩ => ⟨S_, .f32⟩
  | .hbm, ⟨6, _⟩ => ⟨S128, .f32⟩
  | .hbm, ⟨7, _⟩ => ⟨S1x128x1, .f32⟩
  | .hbm, ⟨8, _⟩ => ⟨S_, .f32⟩
  | .hbm, ⟨9, _⟩ => ⟨S1x128x1, .f32⟩
  | .hbm, ⟨10, _⟩ => ⟨S1x128x1, .f32⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128x1, .f32⟩
  | .hbm, ⟨15, _⟩ => ⟨S_, .f32⟩
  | .hbm, ⟨16, _⟩ => ⟨S1x128x1, .f32⟩
  | .hbm, ⟨17, _⟩ => ⟨S1x128x1, .f32⟩
  | .hbm, ⟨18, _⟩ => ⟨S4x128x784, .f32⟩
  | .hbm, ⟨19, _⟩ => ⟨S4x128x784, .f32⟩
  | .hbm, ⟨20, _⟩ => ⟨S4x128x784, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S128, .f32⟩
  | .hbm, ⟨26, _⟩ => ⟨S1x128x1, .f32⟩
  | .hbm, ⟨27, _⟩ => ⟨S1x128x1, .f32⟩
  | .hbm, ⟨28, _⟩ => ⟨S1x128x1, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S1x128x1, .f32⟩
  | .hbm, ⟨34, _⟩ => ⟨S1x128x1, .f32⟩
  | .hbm, ⟨35, _⟩ => ⟨S4x128x784, .f32⟩
  | .hbm, ⟨36, _⟩ => ⟨S4x128x784, .f32⟩
  | .hbm, ⟨37, _⟩ => ⟨S_, .f32⟩
  | .hbm, ⟨38, _⟩ => ⟨S1x128x1, .f32⟩
  | .hbm, ⟨39, _⟩ => ⟨S1x128x1, .f32⟩
  | .hbm, ⟨40, _⟩ => ⟨S1x128x1, .f32⟩
  | .hbm, ⟨41, _⟩ => ⟨S4x128x784, .f32⟩
  | .hbm, ⟨42, _⟩ => ⟨S4x128x784, .f32⟩
  | .hbm, ⟨43, _⟩ => ⟨S1x128x1, .f32⟩
  | .hbm, ⟨44, _⟩ => ⟨S4x128x784, .f32⟩
  | .hbm, ⟨45, _⟩ => ⟨S4x128x784, .f32⟩
  | .hbm, ⟨46, _⟩ => ⟨S1x128x1, .f32⟩
  | .hbm, ⟨47, _⟩ => ⟨S4x128x784, .f32⟩
  | .hbm, ⟨48, _⟩ => ⟨S4x128x784, .f32⟩
  | _, _ => ⟨S4x784x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_cst_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_cst_2 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_cst_3 : Ref sig .tc := ⟨.hbm, 29, rfl⟩
abbrev main_call0_v13 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_1 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩

abbrev nD : Nat := 1
abbrev τ : Topo := Topo.v7x

variable {F : FTy → Type} [FloatOps F]
-- ==== Kernel3.lean ====
abbrev S4x64x28x28 : Shape := ⟨4, ![4, 64, 28, 28]⟩
abbrev S512x576 : Shape := ⟨2, ![512, 576]⟩
abbrev S_ : Shape := ⟨0, ![]⟩
abbrev S4x64x30x30 : Shape := ⟨4, ![4, 64, 30, 30]⟩
abbrev S4x64x1x28x28 : Shape := ⟨5, ![4, 64, 1, 28, 28]⟩
abbrev S4x64x9x28x28 : Shape := ⟨5, ![4, 64, 9, 28, 28]⟩
abbrev S4x576x784 : Shape := ⟨3, ![4, 576, 784]⟩
abbrev S2304x784 : Shape := ⟨2, ![2304, 784]⟩
abbrev S3136x576 : Shape := ⟨2, ![3136, 576]⟩
abbrev S576x512 : Shape := ⟨2, ![576, 512]⟩
abbrev S576x784 : Shape := ⟨2, ![576, 784]⟩
abbrev S784x576 : Shape := ⟨2, ![784, 576]⟩

abbrev nBuf : Space → Nat
  | .hbm => 30
  | .vmem => 8
  | .smem => 0
  | _ => 0

abbrev bufTy : (tb : Table) → Fin (tcTables nBuf tb) → BufTy
  | .hbm, ⟨0, _⟩ => ⟨S4x64x28x28, .f32⟩
  | .hbm, ⟨1, _⟩ => ⟨S512x576, .f32⟩
  | .hbm, ⟨2, _⟩ => ⟨S512x576, .f32⟩
  | .hbm, ⟨3, _⟩ => ⟨S_, .i32⟩
  | .hbm, ⟨4, _⟩ => ⟨S_, .f32⟩
  | .hbm, ⟨5, _⟩ => ⟨S4x64x30x30, .f32⟩
  | .hbm, ⟨6, _⟩ => ⟨S4x64x28x28, .f32⟩
  | .hbm, ⟨7, _⟩ => ⟨S4x64x28x28, .f32⟩
  | .hbm, ⟨8, _⟩ => ⟨S4x64x28x28, .f32⟩
  | .hbm, ⟨9, _⟩ => ⟨S4x64x28x28, .f32⟩
  | .hbm, ⟨10, _⟩ => ⟨S4x64x28x28, .f32⟩
  | .hbm, ⟨11, _⟩ => ⟨S4x64x28x28, .f32⟩
  | .hbm, ⟨12, _⟩ => ⟨S4x64x28x28, .f32⟩
  | .hbm, ⟨13, _⟩ => ⟨S4x64x28x28, .f32⟩
  | .hbm, ⟨14, _⟩ => ⟨S4x64x28x28, .f32⟩
  | .hbm, ⟨15, _⟩ => ⟨S4x64x1x28x28, .f32⟩
  | .hbm, ⟨16, _⟩ => ⟨S4x64x1x28x28, .f32⟩
  | .hbm, ⟨17, _⟩ => ⟨S4x64x1x28x28, .f32⟩
  | .hbm, ⟨18, _⟩ => ⟨S4x64x1x28x28, .f32⟩
  | .hbm, ⟨19, _⟩ => ⟨S4x64x1x28x28, .f32⟩
  | .hbm, ⟨20, _⟩ => ⟨S4x64x1x28x28, .f32⟩
  | .hbm, ⟨21, _⟩ => ⟨S4x64x1x28x28, .f32⟩
  | .hbm, ⟨22, _⟩ => ⟨S4x64x1x28x28, .f32⟩
  | .hbm, ⟨23, _⟩ => ⟨S4x64x1x28x28, .f32⟩
  | .hbm, ⟨24, _⟩ => ⟨S4x64x9x28x28, .f32⟩
  | .hbm, ⟨25, _⟩ => ⟨S4x576x784, .f32⟩
  | .hbm, ⟨26, _⟩ => ⟨S2304x784, .f32⟩
  | .hbm, ⟨27, _⟩ => ⟨S3136x576, .f32⟩
  | .hbm, ⟨28, _⟩ => ⟨S576x512, .f32⟩
  | .hbm, ⟨29, _⟩ => ⟨S576x512, .f32⟩
  | .local _ .vmem, ⟨0, _⟩ => ⟨S576x784, .f32⟩
  | .local _ .vmem, ⟨1, _⟩ => ⟨S576x784, .f32⟩
  | .local _ .vmem, ⟨2, _⟩ => ⟨S512x576, .f32⟩
  | .local _ .vmem, ⟨3, _⟩ => ⟨S512x576, .f32⟩
  | .local _ .vmem, ⟨4, _⟩ => ⟨S784x576, .f32⟩
  | .local _ .vmem, ⟨5, _⟩ => ⟨S784x576, .f32⟩
  | .local _ .vmem, ⟨6, _⟩ => ⟨S576x512, .f32⟩
  | .local _ .vmem, ⟨7, _⟩ => ⟨S576x512, .f32⟩
  | _, _ => ⟨S4x64x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22_0 : Ref sig .tc := ⟨.hbm, 27, rfl⟩
abbrev main_v22_1 : Ref sig .tc := ⟨.hbm, 28, rfl⟩
abbrev main_v22_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S576x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x576 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x576 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S784x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S576x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S576x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference3Ideal.lean ====
abbrev S4x64x28x28 : Shape := ⟨4, ![4, 64, 28, 28]⟩
abbrev S512x576 : Shape := ⟨2, ![512, 576]⟩
abbrev S_ : Shape := ⟨0, ![]⟩
abbrev S4x64x30x30 : Shape := ⟨4, ![4, 64, 30, 30]⟩
abbrev S4x64x1x28x28 : Shape := ⟨5, ![4, 64, 1, 28, 28]⟩
abbrev S4x64x9x28x28 : Shape := ⟨5, ![4, 64, 9, 28, 28]⟩
abbrev S4x576x784 : Shape := ⟨3, ![4, 576, 784]⟩
abbrev S4x784x576 : Shape := ⟨3, ![4, 784, 576]⟩
abbrev S3136x576 : Shape := ⟨2, ![3136, 576]⟩
abbrev S576x512 : Shape := ⟨2, ![576, 512]⟩

abbrev nBuf : Space → Nat
  | .hbm => 30
  | .vmem => 0
  | .smem => 0
  | _ => 0

abbrev bufTy : (tb : Table) → Fin (tcTables nBuf tb) → BufTy
  | .hbm, ⟨0, _⟩ => ⟨S4x64x28x28, .f32⟩
  | .hbm, ⟨1, _⟩ => ⟨S512x576, .f32⟩
  | .hbm, ⟨2, _⟩ => ⟨S512x576, .f32⟩
  | .hbm, ⟨3, _⟩ => ⟨S_, .i32⟩
  | .hbm, ⟨4, _⟩ => ⟨S_, .f32⟩
  | .hbm, ⟨5, _⟩ => ⟨S4x64x30x30, .f32⟩
  | .hbm, ⟨6, _⟩ => ⟨S4x64x28x28, .f32⟩
  | .hbm, ⟨7, _⟩ => ⟨S4x64x28x28, .f32⟩
  | .hbm, ⟨8, _⟩ => ⟨S4x64x28x28, .f32⟩
  | .hbm, ⟨9, _⟩ => ⟨S4x64x28x28, .f32⟩
  | .hbm, ⟨10, _⟩ => ⟨S4x64x28x28, .f32⟩
  | .hbm, ⟨11, _⟩ => ⟨S4x64x28x28, .f32⟩
  | .hbm, ⟨12, _⟩ => ⟨S4x64x28x28, .f32⟩
  | .hbm, ⟨13, _⟩ => ⟨S4x64x28x28, .f32⟩
  | .hbm, ⟨14, _⟩ => ⟨S4x64x28x28, .f32⟩
  | .hbm, ⟨15, _⟩ => ⟨S4x64x1x28x28, .f32⟩
  | .hbm, ⟨16, _⟩ => ⟨S4x64x1x28x28, .f32⟩
  | .hbm, ⟨17, _⟩ => ⟨S4x64x1x28x28, .f32⟩
  | .hbm, ⟨18, _⟩ => ⟨S4x64x1x28x28, .f32⟩
  | .hbm, ⟨19, _⟩ => ⟨S4x64x1x28x28, .f32⟩
  | .hbm, ⟨20, _⟩ => ⟨S4x64x1x28x28, .f32⟩
  | .hbm, ⟨21, _⟩ => ⟨S4x64x1x28x28, .f32⟩
  | .hbm, ⟨22, _⟩ => ⟨S4x64x1x28x28, .f32⟩
  | .hbm, ⟨23, _⟩ => ⟨S4x64x1x28x28, .f32⟩
  | .hbm, ⟨24, _⟩ => ⟨S4x64x9x28x28, .f32⟩
  | .hbm, ⟨25, _⟩ => ⟨S4x576x784, .f32⟩
  | .hbm, ⟨26, _⟩ => ⟨S4x784x576, .f32⟩
  | .hbm, ⟨27, _⟩ => ⟨S3136x576, .f32⟩
  | .hbm, ⟨28, _⟩ => ⟨S576x512, .f32⟩
  | .hbm, ⟨29, _⟩ => ⟨S576x512, .f32⟩
  | _, _ => ⟨S4x64x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== Proof.VqModel.lean ====
/- What the vector-quantisation body computes from one block, as a chain of named vector steps: the table of L1
   distances, the two nearest rows, the refinement between them, the selected row, the output rows. -/
module

public import proofs.«01_k».proof.Proof.Gen.KernelIdeal

@[expose] public section

noncomputable section

namespace Cert.KernelIdeal.Vq

open Cert.KernelIdeal Cert.KernelIdeal.Gen Idealize.ShloMosaic

variable {F : FTy → Type} [FloatOps F]

/-- The column number of every entry of a 64 by 512 block. -/
def iot : FVec F S64x512 .f32 := sitofp .f32 (iota .tc S64x512 32 [1] iota_S64x512_d1_w32)

theorem slicesCol (j : ℕ) (hj : j < 16) : S64x16.Slices ![0, j] S64x1 :=
  (by decide : ∀ j : Fin 16, S64x16.Slices ![0, j.val] S64x1) ⟨j, hj⟩

theorem slicesRow (j : ℕ) (hj : j < 16) : S16x512.Slices ![j, 0] S1x512 :=
  (by decide : ∀ j : Fin 16, S16x512.Slices ![j.val, 0] S1x512) ⟨j, hj⟩

/-- One step of the distance table: the absolute differences of one feature are added. -/
def step (p : FVec F S64x16 .f32) (c : FVec F S16x512 .f32) (j : ℕ) (hj : j < 16) (acc : FVec F S64x512 .f32) :
    FVec F S64x512 .f32 :=
  addf acc (absf (subf
    (broadcastTo S64x512 (extractStridedSlice S64x1 ![0, j] p (slicesCol j hj)) broadcasts_S64x1_S64x512)
    (broadcastTo S64x512 (extractStridedSlice S1x512 ![j, 0] c (slicesRow j hj)) broadcasts_S1x512_S64x512)))

/-- Sixteen steps: the features of one slab. -/
def slab (p : FVec F S64x16 .f32) (c : FVec F S16x512 .f32) (acc : FVec F S64x512 .f32) : FVec F S64x512 .f32 :=
  step p c 15 (by decide) <| step p c 14 (by decide) <| step p c 13 (by decide) <| step p c 12 (by decide) <|
  step p c 11 (by decide) <| step p c 10 (by decide) <| step p c 9 (by decide) <| step p c 8 (by decide) <|
  step p c 7 (by decide) <| step p c 6 (by decide) <| step p c 5 (by decide) <| step p c 4 (by decide) <|
  step p c 3 (by decide) <| step p c 2 (by decide) <| step p c 1 (by decide) <| step p c 0 (by decide) acc

/-- The distance table after the first `n` slabs, from a slab of each operand at every slab number. -/
def table (p : Fin 36 → FVec F S64x16 .f32) (c : Fin 36 → FVec F S16x512 .f32) : (n : ℕ) → n ≤ 36 → FVec F S64x512 .f32
  | 0, _ => broadcast S64x512 (Scalar.ofBits .f32 0x00000000#32)
  | n + 1, h => slab (p ⟨n, h⟩) (c ⟨n, h⟩) (table p c n (Nat.le_of_succ_le h))

/-- A row's minimum. -/
def rowMin (a : FVec F S64x512 .f32) : FVec F S64 .f32 :=
  multiReduction .minimumf [1] S64 a 0x7F800000#32 reduces_S64x512_S64 (.inl rfl) rfl

/-- One value per row, along its 512 columns. -/
def spread (v : FVec F S64 .f32) : FVec F S64x512 .f32 :=
  broadcastTo S64x512 (shapeCast S64x1 v shapeCasts_S64_S64x1) broadcasts_S64x1_S64x512

/-- The large value that stands for "not there". -/
def big : FVec F S64x512 .f32 := broadcast S64x512 (Scalar.ofBits .f32 0x7F61B1E6#32)

/-- Where an entry is its row's minimum. -/
def atMin (a : FVec F S64x512 .f32) : IVec S64x512 1 := cmpf .oeq a (spread (rowMin a))

/-- The first column at which a row attains its minimum. -/
def first (a : FVec F S64x512 .f32) : FVec F S64 .f32 := rowMin (select (atMin a) iot big)

/-- The table with every row's minima masked out. -/
def masked (a : FVec F S64x512 .f32) : FVec F S64x512 .f32 := select (atMin a) big a

/-- The one-hot rows of a column number per row. -/
def onehot (i : FVec F S64 .f32) : FVec F S64x512 .bf16 :=
  truncf .bf16 (sitofp .f32 (extui 32 (cmpf .oeq iot (spread i)) natLt_1_32)) bitsLt_bf16_f32

/-- The rows of a 512 by 576 table that one-hot rows select, from the table's three parts. -/
def pick (o : FVec F S64x512 .bf16) (a b c : FVec F S1x512x576 .bf16) : FVec F S64x576 .f32 :=
  addf (addf
    (matmul dot_S64x512_S512x576_S64x576_1_0_0_1_n_n none o (shapeCast S512x576 a shapeCasts_S1x512x576_S512x576)
      (constant S64x576 .f32 0x00000000#32))
    (matmul dot_S64x512_S512x576_S64x576_1_0_0_1_n_n none o (shapeCast S512x576 b shapeCasts_S1x512x576_S512x576)
      (constant S64x576 .f32 0x00000000#32)))
    (matmul dot_S64x512_S512x576_S64x576_1_0_0_1_n_n none o (shapeCast S512x576 c shapeCasts_S1x512x576_S512x576)
      (constant S64x576 .f32 0x00000000#32))

/-- The same of a 512 by 128 table. -/
def pickOut (o : FVec F S64x512 .bf16) (a b c : FVec F S1x512x128 .bf16) : FVec F S64x128 .f32 :=
  addf (addf
    (matmul dot_S64x512_S512x128_S64x128_1_0_0_1_n_n none o (shapeCast S512x128 a shapeCasts_S1x512x128_S512x128)
      (constant S64x128 .f32 0x00000000#32))
    (matmul dot_S64x512_S512x128_S64x128_1_0_0_1_n_n none o (shapeCast S512x128 b shapeCasts_S1x512x128_S512x128)
      (constant S64x128 .f32 0x00000000#32)))
    (matmul dot_S64x512_S512x128_S64x128_1_0_0_1_n_n none o (shapeCast S512x128 c shapeCasts_S1x512x128_S512x128)
      (constant S64x128 .f32 0x00000000#32))

/-- The L1 distance of two rows. -/
def dist (q r : FVec F S64x576 .f32) : FVec F S64 .f32 :=
  multiReduction .add [1] S64 (absf (subf q r)) 0x00000000#32 reduces_S64x576_S64 (.inl rfl) rfl

/-- Where the second candidate takes the first one's place. -/
def swap (ia ib : FVec F S64 .f32) (q ra rb : FVec F S64x576 .f32) : IVec S64 1 :=
  ori (cmpf .olt (dist q rb) (dist q ra)) (andi (cmpf .oeq (dist q rb) (dist q ra)) (cmpf .olt ib ia))

/-- The column chosen, from the table of distances `a`, the rows `q` and the three parts of the table of rows. -/
def chosen (a : FVec F S64x512 .f32) (q : FVec F S64x576 .f32) (t0 t1 t2 : FVec F S1x512x576 .bf16) : FVec F S64 .f32 :=
  select (swap (first a) (first (masked a)) q (pick (onehot (first a)) t0 t1 t2)
    (pick (onehot (first (masked a))) t0 t1 t2)) (first (masked a)) (first a)

/-- The row chosen, subtracted from `q`. -/
def resid (a : FVec F S64x512 .f32) (q : FVec F S64x576 .f32) (t0 t1 t2 : FVec F S1x512x576 .bf16) : FVec F S64x576 .f32 :=
  subf q (select
    (broadcastTo S64x576 (shapeCast S64x1 (shapeCast S64x1 (swap (first a) (first (masked a)) q (pick (onehot (first a)) t0 t1 t2)
      (pick (onehot (first (masked a))) t0 t1 t2)) shapeCasts_S64_S64x1) shapeCasts_S64x1_S64x1) broadcasts_S64x1_S64x576)
    (pick (onehot (first (masked a))) t0 t1 t2) (pick (onehot (first a)) t0 t1 t2))

/-- The output rows, from the two columns chosen and the parts of the two output tables. -/
def outRows (i1 i2 : FVec F S64 .f32) (d0 d1 d2 e0 e1 e2 : FVec F S1x512x128 .bf16) : FVec F S64x128 .f32 :=
  addf (pickOut (onehot i1) d0 d1 d2) (pickOut (onehot i2) e0 e1 e2)

/-- A block's share of the sums: the column sums, the column sums of squares, zeros. -/
def sums (v : FVec F S64x128 .f32) : FVec F S8x128 .f32 :=
  concatenate S8x128 0
    [⟨S1x128, shapeCast S1x128 (multiReduction .add [0] S128 v 0x00000000#32 reduces_S64x128_S128 (.inl rfl) rfl)
        shapeCasts_S128_S1x128⟩,
     ⟨S1x128, shapeCast S1x128 (multiReduction .add [0] S128 (mulf v v) 0x00000000#32 reduces_S64x128_S128 (.inl rfl) rfl)
        shapeCasts_S128_S1x128⟩,
     ⟨S6x128, broadcast S6x128 (Scalar.ofBits .f32 0x00000000#32)⟩] concatenates_S1x128_S1x128_S6x128_S8x128_d0

end Cert.KernelIdeal.Vq

end

end
-- ==== Proof.VqBody.lean ====
/- What one run of the vector-quantisation body leaves: the pieces its run found are the named steps of `VqModel` over
   the loads of its input blocks and of its two scratch buffers. -/
module

public import proofs.«01_k».proof.Proof.Gen.KernelIdeal.Value
public import proofs.«01_k».proof.Proof.VqModel
public import Idealize.ShloMosaic.Lib.Pipeline.ValueKit
public import Idealize.ShloMosaic.Lib.Pipeline.ReadBack
public import Idealize.ShloMosaic.Lib.WholeRead

@[expose] public section

set_option maxRecDepth 16384

noncomputable section

namespace Cert.KernelIdeal.Vq

open Cert.KernelIdeal Cert.KernelIdeal.Gen Idealize.ShloMosaic

variable {F : FTy → Type} [FloatOps F]

theorem inbSlab (n : Fin 36) : ∀ a, ![n.val, 0, 0] a + S1x64x16.size a ≤ S36x64x16.size a :=
  (by decide +kernel : ∀ n : Fin 36, ∀ a, ![n.val, 0, 0] a + S1x64x16.size a ≤ S36x64x16.size a) n

theorem inbTab (n : Fin 36) : ∀ a, ![n.val, 0, 0] a + S1x16x512.size a ≤ S36x16x512.size a :=
  (by decide +kernel : ∀ n : Fin 36, ∀ a, ![n.val, 0, 0] a + S1x16x512.size a ≤ S36x16x512.size a) n

theorem inbCol (n : Fin 36) : ∀ a, ![0, 16 * n.val] a + S64x16.size a ≤ S64x576.size a :=
  (by decide +kernel : ∀ n : Fin 36, ∀ a, ![0, 16 * n.val] a + S64x16.size a ≤ S64x576.size a) n

theorem inbPart (k : Fin 3) : ∀ a, ![k.val, 0, 0] a + S1x512x576.size a ≤ S3x512x576.size a :=
  (by decide +kernel : ∀ k : Fin 3, ∀ a, ![k.val, 0, 0] a + S1x512x576.size a ≤ S3x512x576.size a) k

theorem inbPartOut (k : Fin 3) : ∀ a, ![k.val, 0, 0] a + S1x512x128.size a ≤ S3x512x128.size a :=
  (by decide +kernel : ∀ k : Fin 3, ∀ a, ![k.val, 0, 0] a + S1x512x128.size a ≤ S3x512x128.size a) k

theorem slicesSlab (n : Fin 36) : S64x576.Slices ![0, 16 * n.val] S64x16 :=
  (by decide +kernel : ∀ n : Fin 36, S64x576.Slices ![0, 16 * n.val] S64x16) n

/-- Stores of slabs `n - 1, …, 0` of the scratch, the last one first, over earlier stores. -/
def stores (f : Fin 36 → Vec F S1x64x16 .f32) (L : List (View.Piece (Elt F) S36x64x16 .f32)) :
    (n : ℕ) → n ≤ 36 → List (View.Piece (Elt F) S36x64x16 .f32)
  | 0, _ => L
  | n + 1, h => ⟨Rect.unit ![n, 0, 0] S1x64x16.size (inbSlab ⟨n, h⟩), f ⟨n, h⟩⟩ :: stores f L n (Nat.le_of_succ_le h)

/-- A slab loaded back is the slab stored. -/
theorem readCov_stores {κ : Kind} {sp : Space} (v : View sig κ sp S36x64x16 .f32) (f : Fin 36 → Vec F S1x64x16 .f32)
    (L : List (View.Piece (Elt F) S36x64x16 .f32)) (k : Fin 36) : ∀ (n : ℕ) (h : n ≤ 36), k.val < n →
    v.readCov (stores f L n h) (Rect.unit (s := S36x64x16) ![k.val, 0, 0] S1x64x16.size (inbSlab k)).toLoadRect = f k
  | 0, _, hk => absurd hk (Nat.not_lt_zero _)
  | n + 1, h, hk => by
    rcases Nat.lt_succ_iff_lt_or_eq.mp hk with hlt | heq
    · rw [stores, View.readCov_skip _ _ _ _ _ ((by decide +kernel : ∀ (k n : Fin 36), k.val < n.val →
        LoadRect.disj (Rect.unit (s := S36x64x16) ![n.val, 0, 0] S1x64x16.size (inbSlab n))
          (Rect.unit (s := S36x64x16) ![k.val, 0, 0] S1x64x16.size (inbSlab k)).toLoadRect = true) k ⟨n, h⟩ hlt)]
      exact readCov_stores v f L k n _ hlt
    · obtain rfl : k = ⟨n, h⟩ := Fin.ext heq
      rw [stores]
      exact View.readCov_cons_toLoadRect v _ _ _

/-- The scratch of sums at the first block. -/
def zeros : FVec F S8x128 .f32 :=
  shapeCast S8x128 (broadcast S8x128 (Scalar.ofBits .f32 0x00000000#32)) shapeCasts_S8x128_S8x128

/-- A block's share added to the sums so far. -/
def added (acc s : FVec F S8x128 .f32) : FVec F S8x128 .f32 := shapeCast S8x128 (addf acc s) shapeCasts_S8x128_S8x128

section
variable (c : Dev nD) (i : grid0.Coords)
  (arg1 : Memref sig .tc .vmem S64x576 .f32) (harg1 : arg1.IsWhole) (arg2 : Memref sig .tc .vmem S36x16x512 .f32) (harg2 : arg2.IsWhole)
  (arg3 : Memref sig .tc .vmem S36x16x512 .f32) (harg3 : arg3.IsWhole) (arg4 : Memref sig .tc .vmem S3x512x576 .bf16) (harg4 : arg4.IsWhole)
  (arg5 : Memref sig .tc .vmem S3x512x576 .bf16) (harg5 : arg5.IsWhole) (arg6 : Memref sig .tc .vmem S3x512x128 .bf16) (harg6 : arg6.IsWhole)
  (arg7 : Memref sig .tc .vmem S3x512x128 .bf16) (harg7 : arg7.IsWhole)
  (arg10 : Memref sig .tc .vmem S36x64x16 .f32) (arg11 : Memref sig .tc .vmem S64x576 .f32)
  (x0 : Vec F S64x576 .f32) (x1 x2 : Vec F S36x16x512 .f32) (x3 x4 : Vec F S3x512x576 .bf16) (x5 x6 : Vec F S3x512x128 .bf16)

/-- The slabs of the input block stored first. -/
def slabs1 : List (View.Piece (Elt F) S36x64x16 .f32) :=
  stores (fun n => shapeCast S1x64x16 (View.readAt (Elt F) arg1.view
    (Rect.unit (s := S64x576) ![0, 16 * n.val] S64x16.size (inbCol n)).toLoadRect (harg1.unread x0)) shapeCasts_S64x16_S1x64x16) [] 36 (Nat.le_refl _)

/-- The slabs of a 64 by 576 value stored over those. -/
def slabs2 (r : FVec F S64x576 .f32) (L : List (View.Piece (Elt F) S36x64x16 .f32)) : List (View.Piece (Elt F) S36x64x16 .f32) :=
  stores (fun n => shapeCast S1x64x16 (extractStridedSlice S64x16 ![0, 16 * n.val] r (slicesSlab n)) shapeCasts_S64x16_S1x64x16) L 36
    (Nat.le_refl _)

/-- The distance table over slabs loaded from the scratch and from a table of centroids. -/
def tableOf (L : List (View.Piece (Elt F) S36x64x16 .f32)) (arg : Memref sig .tc .vmem S36x16x512 .f32) (harg : arg.IsWhole)
    (x : Vec F S36x16x512 .f32) : FVec F S64x512 .f32 :=
  table (fun n => shapeCast S64x16 (arg10.view.readCov L (Rect.unit (s := S36x64x16) ![n.val, 0, 0] S1x64x16.size (inbSlab n)).toLoadRect)
      shapeCasts_S1x64x16_S64x16)
    (fun n => shapeCast S16x512 (View.readAt (Elt F) arg.view (Rect.unit (s := S36x16x512) ![n.val, 0, 0] S1x16x512.size (inbTab n)).toLoadRect
      (harg.unread x)) shapeCasts_S1x16x512_S16x512) 36 (Nat.le_refl _)

/-- One of a table's three parts, loaded. -/
def part (arg : Memref sig .tc .vmem S3x512x576 .bf16) (harg : arg.IsWhole) (x : Vec F S3x512x576 .bf16) (k : Fin 3) :
    FVec F S1x512x576 .bf16 :=
  View.readAt (Elt F) arg.view (Rect.unit (s := S3x512x576) ![k.val, 0, 0] S1x512x576.size (inbPart k)).toLoadRect (harg.unread x)

/-- One of an output table's three parts, loaded. -/
def partOut (arg : Memref sig .tc .vmem S3x512x128 .bf16) (harg : arg.IsWhole) (x : Vec F S3x512x128 .bf16) (k : Fin 3) :
    FVec F S1x512x128 .bf16 :=
  View.readAt (Elt F) arg.view (Rect.unit (s := S3x512x128) ![k.val, 0, 0] S1x512x128.size (inbPartOut k)).toLoadRect (harg.unread x)

/-- The whole input block, loaded. -/
def rows (arg1 : Memref sig .tc .vmem S64x576 .f32) (harg1 : arg1.IsWhole) (x0 : Vec F S64x576 .f32) : FVec F S64x576 .f32 :=
  View.readAt (Elt F) arg1.view (Rect.unit (s := S64x576) ![0, 0] S64x576.size inb_S64x576_S64x576_0_0).toLoadRect (harg1.unread x0)

/-- The first table of distances, as loaded. -/
def tab1 := tableOf arg10 (slabs1 arg1 harg1 x0) arg2 harg2 x1

/-- The first residual, as computed. -/
def res1 : FVec F S64x576 .f32 :=
  resid (tab1 arg1 harg1 arg2 harg2 arg10 x0 x1) (rows arg1 harg1 x0) (part arg4 harg4 x3 0) (part arg4 harg4 x3 1) (part arg4 harg4 x3 2)

/-- The first residual, as loaded back. -/
def res2 : FVec F S64x576 .f32 :=
  arg11.view.readCov (Val := Elt F) [⟨Rect.unit (s := S64x576) ![0, 0] S64x576.size inb_S64x576_S64x576_0_0,
    shapeCast S64x576 (res1 arg1 harg1 arg2 harg2 arg4 harg4 arg10 x0 x1 x3) shapeCasts_S64x576_S64x576⟩]
    (Rect.unit (s := S64x576) ![0, 0] S64x576.size inb_S64x576_S64x576_0_0).toLoadRect

/-- The second table of distances, as loaded. -/
def tab2 := tableOf arg10 (slabs2 (res1 arg1 harg1 arg2 harg2 arg4 harg4 arg10 x0 x1 x3) (slabs1 arg1 harg1 x0)) arg3 harg3 x2

/-- The first column chosen. -/
def col1 : FVec F S64 .f32 :=
  chosen (tab1 arg1 harg1 arg2 harg2 arg10 x0 x1) (rows arg1 harg1 x0) (part arg4 harg4 x3 0) (part arg4 harg4 x3 1) (part arg4 harg4 x3 2)

/-- The second column chosen. -/
def col2 : FVec F S64 .f32 :=
  chosen (tab2 arg1 harg1 arg2 harg2 arg3 harg3 arg4 harg4 arg10 x0 x1 x2 x3)
    (res2 arg1 harg1 arg2 harg2 arg4 harg4 arg10 arg11 x0 x1 x3) (part arg5 harg5 x4 0) (part arg5 harg5 x4 1) (part arg5 harg5 x4 2)

/-- The output rows. -/
def outv : FVec F S64x128 .f32 :=
  outRows (col1 arg1 harg1 arg2 harg2 arg4 harg4 arg10 x0 x1 x3)
    (col2 arg1 harg1 arg2 harg2 arg3 harg3 arg4 harg4 arg5 harg5 arg10 arg11 x0 x1 x2 x3 x4)
    (partOut arg6 harg6 x5 0) (partOut arg6 harg6 x5 1) (partOut arg6 harg6 x5 2)
    (partOut arg7 harg7 x6 0) (partOut arg7 harg7 x6 1) (partOut arg7 harg7 x6 2)

variable (arg8 : Memref sig .tc .vmem S64x128 .f32) (harg8 : arg8.IsWhole) (arg9 : Memref sig .tc .vmem S8x128 .f32) (harg9 : arg9.IsWhole)
  (harg10 : arg10.IsWhole) (harg11 : arg11.IsWhole) (arg12 : Memref sig .tc .vmem S8x128 .f32) (harg12 : arg12.IsWhole)
  (xs2 : Vec F S8x128 .f32)

/-- Case A: the output block is stored whole, the rows of the model. -/
theorem run7_A (hc0 : cond0_0 i) (hc1 : ¬cond0_1 i) : (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).1
    = [⟨Rect.unit (s := S64x128) ![0, 0] S64x128.size inb_S64x128_S64x128_0_0,
      (outv arg1 harg1 arg2 harg2 arg3 harg3 arg4 harg4 arg5 harg5 arg6 harg6 arg7 harg7 arg10 arg11 x0 x1 x2 x3 x4 x5 x6)⟩] := by
  sl_kernel_rfl

/-- Case B: the output block is stored whole, the rows of the model. -/
theorem run7_B (hc0 : ¬cond0_0 i) (hc1 : ¬cond0_1 i) : (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs2).1
    = [⟨Rect.unit (s := S64x128) ![0, 0] S64x128.size inb_S64x128_S64x128_0_0,
      (outv arg1 harg1 arg2 harg2 arg3 harg3 arg4 harg4 arg5 harg5 arg6 harg6 arg7 harg7 arg10 arg11 x0 x1 x2 x3 x4 x5 x6)⟩] := by
  sl_kernel_rfl

/-- Case C: the output block is stored whole, the rows of the model. -/
theorem run7_C (hc0 : ¬cond0_0 i) (hc1 : cond0_1 i) : (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs2).1
    = [⟨Rect.unit (s := S64x128) ![0, 0] S64x128.size inb_S64x128_S64x128_0_0,
      (outv arg1 harg1 arg2 harg2 arg3 harg3 arg4 harg4 arg5 harg5 arg6 harg6 arg7 harg7 arg10 arg11 x0 x1 x2 x3 x4 x5 x6)⟩] := by
  sl_kernel_rfl

/-- Case A: the scratch of sums ends with this block's share added. -/
theorem run12_A (hc0 : cond0_0 i) (hc1 : ¬cond0_1 i) : (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.2.1
    = [⟨Rect.unit (s := S8x128) ![0, 0] S8x128.size inb_S8x128_S8x128_0_0,
      added (arg12.view.readCov (Val := Elt F) [⟨Rect.unit (s := S8x128) ![0, 0] S8x128.size inb_S8x128_S8x128_0_0, zeros⟩] (Rect.unit (s := S8x128) ![0, 0] S8x128.size inb_S8x128_S8x128_0_0).toLoadRect : FVec F S8x128 .f32)
        (sums (outv arg1 harg1 arg2 harg2 arg3 harg3 arg4 harg4 arg5 harg5 arg6 harg6 arg7 harg7 arg10 arg11 x0 x1 x2 x3 x4 x5 x6))⟩, ⟨Rect.unit (s := S8x128) ![0, 0] S8x128.size inb_S8x128_S8x128_0_0, zeros⟩] := by
  sl_kernel_rfl

/-- Case B: the scratch of sums ends with this block's share added. -/
theorem run12_B (hc0 : ¬cond0_0 i) (hc1 : ¬cond0_1 i) : (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs2).2.2.1
    = [⟨Rect.unit (s := S8x128) ![0, 0] S8x128.size inb_S8x128_S8x128_0_0,
      added (View.readAt (Elt F) arg12.view (Rect.unit (s := S8x128) ![0, 0] S8x128.size inb_S8x128_S8x128_0_0).toLoadRect (harg12.unread xs2) : FVec F S8x128 .f32)
        (sums (outv arg1 harg1 arg2 harg2 arg3 harg3 arg4 harg4 arg5 harg5 arg6 harg6 arg7 harg7 arg10 arg11 x0 x1 x2 x3 x4 x5 x6))⟩] := by
  sl_kernel_rfl

/-- Case C: the scratch of sums ends with this block's share added. -/
theorem run12_C (hc0 : ¬cond0_0 i) (hc1 : cond0_1 i) : (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs2).2.2.1
    = [⟨Rect.unit (s := S8x128) ![0, 0] S8x128.size inb_S8x128_S8x128_0_0,
      added (View.readAt (Elt F) arg12.view (Rect.unit (s := S8x128) ![0, 0] S8x128.size inb_S8x128_S8x128_0_0).toLoadRect (harg12.unread xs2) : FVec F S8x128 .f32)
        (sums (outv arg1 harg1 arg2 harg2 arg3 harg3 arg4 harg4 arg5 harg5 arg6 harg6 arg7 harg7 arg10 arg11 x0 x1 x2 x3 x4 x5 x6))⟩] := by
  sl_kernel_rfl

/-- Case C: the block of sums is stored whole, what the scratch holds. -/
theorem run8_C (hc0 : ¬cond0_0 i) (hc1 : cond0_1 i) : (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs2).2.1
    = [⟨Rect.unit (s := S8x128) ![0, 0] S8x128.size inb_S8x128_S8x128_0_0, arg12.view.readCov (Val := Elt F) [⟨Rect.unit (s := S8x128) ![0, 0] S8x128.size inb_S8x128_S8x128_0_0,
      added (View.readAt (Elt F) arg12.view (Rect.unit (s := S8x128) ![0, 0] S8x128.size inb_S8x128_S8x128_0_0).toLoadRect (harg12.unread xs2) : FVec F S8x128 .f32)
        (sums (outv arg1 harg1 arg2 harg2 arg3 harg3 arg4 harg4 arg5 harg5 arg6 harg6 arg7 harg7 arg10 arg11 x0 x1 x2 x3 x4 x5 x6))⟩] (Rect.unit (s := S8x128) ![0, 0] S8x128.size inb_S8x128_S8x128_0_0).toLoadRect⟩] := by
  sl_kernel_rfl

end

end Cert.KernelIdeal.Vq
end
end
-- ==== Proof.VqPoints.lean ====
/- What the points of the vector-quantisation call's grid leave: each point its block of output rows, and in the scratch of
   sums what the point before left with the block's share added. -/
module

public import proofs.«01_k».proof.Proof.VqBody
public import Idealize.ShloMosaic.Lib.WholeRead
public import Idealize.ShloMosaic.Lib.Pipeline.ValueKit

@[expose] public section

set_option maxRecDepth 16384

noncomputable section

namespace Cert.KernelIdeal.Vq

open Cert.KernelIdeal Cert.KernelIdeal.Gen Idealize.ShloMosaic Idealize.ShloMosaic.TcCoe

section
variable {F : FTy → Type} [FloatOps F]

/-- The sums' buffer, the last store through it whole, reads what was stored. -/
theorem stored_sums {κ : Kind} {sp : Space} (v : View sig κ sp S8x128 .f32) (w : FVec F S8x128 .f32)
    (L : List (View.Piece (Elt F) S8x128 .f32)) :
    v.read (Elt F) (v.writes (Elt F) v.junk (⟨Rect.unit (s := S8x128) ![0, 0] S8x128.size inb_S8x128_S8x128_0_0, w⟩ :: L)) = w :=
  (View.read_writes_junk_eq_canon v _).trans (View.canon_cons_unit_lit _ w L (by decide))

/-- The rows' buffer, stored whole, reads what was stored. -/
theorem stored_rows {κ : Kind} {sp : Space} (v : View sig κ sp S64x128 .f32) (w : FVec F S64x128 .f32)
    (L : List (View.Piece (Elt F) S64x128 .f32)) :
    v.read (Elt F) (v.writes (Elt F) v.junk (⟨Rect.unit (s := S64x128) ![0, 0] S64x128.size inb_S64x128_S64x128_0_0, w⟩ :: L)) = w :=
  (View.read_writes_junk_eq_canon v _).trans (View.canon_cons_unit_lit _ w L (by decide))

/-- The scratch of sums loaded whole reads what it holds. -/
theorem held_sums {κ : Kind} {sp : Space} (arg : Memref sig κ sp S8x128 .f32) (harg : arg.IsWhole) (x : Vec F S8x128 .f32) :
    View.readAt (Elt F) arg.view (Rect.unit (s := S8x128) ![0, 0] S8x128.size inb_S8x128_S8x128_0_0).toLoadRect (harg.unread x) = x := by
  funext y
  rw [harg.readAt_unread]
  exact View.ld_unit_apply_of x _ _ _ _ y (fun | 0 => (Nat.zero_add _).symm | 1 => (Nat.zero_add _).symm)

variable (m : (ℓ : Loc nD τ sig) → Buf (Elt F) ℓ) (c : Dev nD)

/-- The rows that point `t` computes from its input blocks. -/
def rowsAt (t : Fin cfg0.N) : FVec F S64x128 .f32 :=
  outv (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) scM0_0 scM0_1 (iblk m c 0 t) (iblk m c 1 t) (iblk m c 2 t) (iblk m c 3 t) (iblk m c 4 t) (iblk m c 5 t)
    (iblk m c 6 t)

/-- Every point leaves its rows in the output block. -/
theorem rows_left (t : Fin cfg0.N) : (outsAt0 m c t.val t.isLt).1 = rowsAt m c t := by
  have hN := lt_of_lt_of_eq t.isLt (show cfg0.N = 49 from N_0)
  by_cases h0 : t.val % 49 = 0
  · refine (congrArg Prod.fst (outsAt0_A m c t h0 (by omega))).trans ?_
    dsimp only
    unfold out0_A_7
    rw [run7_A]
    exact stored_rows _ _ _
  · by_cases h1 : t.val % 49 = 48
    · refine (congrArg Prod.fst (outsAt0_C m c t h0 h1)).trans ?_
      dsimp only
      unfold out0_C_7
      rw [run7_C]
      exact stored_rows _ _ _
    · refine (congrArg Prod.fst (outsAt0_B m c t h0 h1)).trans ?_
      dsimp only
      unfold out0_B_7
      rw [run7_B]
      exact stored_rows _ _ _

/-- The first point leaves its own share of the sums. -/
theorem sums_first (t : Fin cfg0.N) (h0 : t.val % 49 = 0) :
    (outsAt0 m c t.val t.isLt).2.2 = added zeros (sums (rowsAt m c t)) := by
  refine (congrArg (fun p => p.2.2) (outsAt0_A m c t h0 (by omega))).trans ?_
  dsimp only
  unfold sout0_A_2
  rw [run12_A]
  refine (stored_sums _ _ _).trans ?_
  rw [View.readCov_cons_toLoadRect]
  rfl

/-- Every later point adds its share to what the point before left. -/
theorem sums_next (t : Fin cfg0.N) (h0 : ¬t.val % 49 = 0) :
    (outsAt0 m c t.val t.isLt).2.2
      = added (outsAt0 m c (t.val - 1) (Nat.lt_of_le_of_lt (Nat.sub_le _ _) t.isLt)).2.2 (sums (rowsAt m c t)) := by
  by_cases h1 : t.val % 49 = 48
  · refine (congrArg (fun p => p.2.2) (outsAt0_C m c t h0 h1)).trans ?_
    dsimp only
    unfold sout0_C_2
    rw [run12_C]
    refine (stored_sums _ _ _).trans ?_
    rw [held_sums]
    rfl
  · refine (congrArg (fun p => p.2.2) (outsAt0_B m c t h0 h1)).trans ?_
    dsimp only
    unfold sout0_B_2
    rw [run12_B]
    refine (stored_sums _ _ _).trans ?_
    rw [held_sums]
    rfl

/-- The last point stores the sums as the scratch holds them. -/
theorem sums_left (t : Fin cfg0.N) (h1 : t.val % 49 = 48) :
    (outsAt0 m c t.val t.isLt).2.1 = (outsAt0 m c t.val t.isLt).2.2 := by
  rw [sums_next m c t (by omega)]
  refine (congrArg (fun p => p.2.1) (outsAt0_C m c t (by omega) h1)).trans ?_
  dsimp only
  unfold out0_C_8
  rw [run8_C]
  refine (stored_sums _ _ _).trans ?_
  rw [View.readCov_cons_toLoadRect, held_sums]
  rfl

end
end Cert.KernelIdeal.Vq
end
end
-- ==== Proof.ArgMin.lean ====
/- The least index at which a finite row of extended reals is smallest, and what a kernel that looks for the two
   smallest entries of the row finds. -/
module

public import Idealize.ShloMosaic.PureOps.Ideal.Laws

@[expose] public section

namespace Cert.Vq

/-- Some index attains the minimum of a row. -/
theorem exists_least {n : ℕ} [NeZero n] (f : Fin n → EReal) :
    (Finset.univ.filter fun k => ∀ j, f k ≤ f j).Nonempty := by
  obtain ⟨k, -, hk⟩ := Finset.exists_min_image (Finset.univ : Finset (Fin n)) f ⟨0, Finset.mem_univ _⟩
  exact ⟨k, by simpa using fun j => hk j (Finset.mem_univ j)⟩

/-- The least index at which the row `f` is smallest. -/
noncomputable def least {n : ℕ} [NeZero n] (f : Fin n → EReal) : Fin n :=
  (Finset.univ.filter fun k => ∀ j, f k ≤ f j).min' (exists_least f)

/-- The row is smallest at `least f`. -/
theorem least_le {n : ℕ} [NeZero n] (f : Fin n → EReal) (j : Fin n) : f (least f) ≤ f j := by
  have h := Finset.min'_mem _ (exists_least f)
  exact (Finset.mem_filter.mp h).2 j

/-- No index below `least f` attains the minimum. -/
theorem least_min {n : ℕ} [NeZero n] (f : Fin n → EReal) (k : Fin n) (h : ∀ j, f k ≤ f j) : least f ≤ k :=
  Finset.min'_le _ _ (Finset.mem_filter.mpr ⟨Finset.mem_univ _, h⟩)

/-- An index that attains the minimum, and below which none does, is `least f`. -/
theorem eq_least {n : ℕ} [NeZero n] (f : Fin n → EReal) (k : Fin n) (h : ∀ j, f k ≤ f j)
    (h' : ∀ j, j < k → f k < f j) : k = least f := by
  refine le_antisymm ?_ (least_min f k h)
  by_contra hlt
  exact absurd (least_le f k) (not_le.mpr (h' _ (not_le.mp hlt)))

/-- The fold of `min` from the greatest value is at most every entry. -/
theorem fold_min_le {n : ℕ} (f : Fin n → EReal) (j : Fin n) :
    (Finset.univ : Finset (Fin n)).fold min ⊤ f ≤ f j :=
  Finset.inf_le (f := f) (Finset.mem_univ j)

/-- The fold of `min` from the greatest value is attained. -/
theorem fold_min_eq {n : ℕ} [NeZero n] (f : Fin n → EReal) :
    (Finset.univ : Finset (Fin n)).fold min ⊤ f = f (least f) :=
  le_antisymm (fold_min_le f _) (Finset.le_inf (f := f) fun j _ => least_le f j)

/-- The index of an entry, read as an extended real. -/
def ix {n : ℕ} (k : Fin n) : EReal := (((k.val : ℝ)) : EReal)

theorem ix_le {n : ℕ} {j k : Fin n} : ix j ≤ ix k ↔ j ≤ k := by
  simp [ix, EReal.coe_le_coe_iff]

theorem ix_lt {n : ℕ} {j k : Fin n} : ix j < ix k ↔ j < k := by
  simp [ix, EReal.coe_lt_coe_iff]

theorem ix_inj {n : ℕ} {j k : Fin n} : ix j = ix k ↔ j = k := by
  simp [ix, EReal.coe_eq_coe_iff, Fin.ext_iff]

/-- Masking the row's indices by "the entry equals the minimum" and taking the minimum over the rest finds the least
    index at which the row is smallest, whatever large value stands for "not there". -/
theorem first_eq {n : ℕ} [NeZero n] (f : Fin n → EReal) (B : EReal) (hB : ∀ k : Fin n, ix k ≤ B) :
    (Finset.univ : Finset (Fin n)).fold min ⊤
        (fun k => if f k = (Finset.univ : Finset (Fin n)).fold min ⊤ f then ix k else B) = ix (least f) := by
  rw [fold_min_eq f]
  refine le_antisymm ?_ (Finset.le_inf (f := fun k => if f k = f (least f) then ix k else B) fun k _ => ?_)
  · refine (fold_min_le _ (least f)).trans ?_
    simp
  · split_ifs with h
    · exact ix_le.mpr (least_min f k fun j => h ▸ least_le f j)
    · exact hB _

/-- THE REFINEMENT KEEPS THE FIRST CANDIDATE: with any second candidate `k`, the test "the second is strictly nearer,
    or as near with a smaller index" is false. -/
theorem no_swap {n : ℕ} [NeZero n] (f : Fin n → EReal) (k : Fin n) :
    ¬ (f k < f (least f) ∨ (f k = f (least f) ∧ ix k < ix (least f))) := by
  rintro (h | ⟨h, h'⟩)
  · exact absurd (least_le f k) (not_le.mpr h)
  · exact absurd (least_min f k fun j => h ▸ least_le f j) (not_le.mpr (ix_lt.mp h'))

/-- A sum of a row's products with a one-hot row selects one entry: `0 * x = 0` for every extended real. -/
theorem sum_onehot {n : ℕ} (i : Fin n) (t : Fin n → EReal) :
    ∑ k : Fin n, (if ix k = ix i then (1 : EReal) else 0) * t k = t i := by
  rw [Finset.sum_eq_single i]
  · simp
  · intro b _ hb
    simp [ix_inj, hb]
  · simp

/-- What is left of a value after it is cut into three parts, each the rest of those before it, and added up again. -/
noncomputable def sp (t : EReal) : EReal := (t + (t - t)) + ((t - t) - (t - t))

/-- A finite value is the sum of its three parts. -/
theorem sp_coe (t : ℝ) : sp (t : EReal) = t := by
  have h : (t : EReal) - t = 0 := EReal.sub_self (EReal.coe_ne_top t) (EReal.coe_ne_bot t)
  simp [sp, h]

theorem sp_top : sp ⊤ = ⊥ := by simp [sp]
theorem sp_bot : sp ⊥ = ⊥ := by simp [sp]

/-- The distance from `⊤`, or from `⊥`, is `⊤`, whatever it is taken from. -/
theorem abs_sub_inf (q t : EReal) (ht : t = ⊤ ∨ t = ⊥) : max (q - t) (-(q - t)) = ⊤ := by
  rcases ht with rfl | rfl
  · simp
  · induction q <;> simp

theorem abs_inf_sub (q t : EReal) (hq : q = ⊤ ∨ q = ⊥) : max (q - t) (-(q - t)) = ⊤ := by
  rcases hq with rfl | rfl <;> induction t <;> simp

/-- Cutting a table entry in three and adding it up again changes no distance to it, the infinite entries included. -/
theorem abs_sub_sp (q t : EReal) : max (q - sp t) (-(q - sp t)) = max (q - t) (-(q - t)) := by
  induction t with
  | bot => rw [sp_bot]
  | top => rw [sp_top, abs_sub_inf q ⊤ (.inl rfl), abs_sub_inf q ⊥ (.inr rfl)]
  | coe t => rw [sp_coe]

/-- Nor any distance from a residual taken against it. -/
theorem abs_sub_sp_sub (p t c : EReal) :
    max (p - sp t - c) (-(p - sp t - c)) = max (p - t - c) (-(p - t - c)) := by
  have inf : ∀ p t : EReal, (t = ⊤ ∨ t = ⊥) → (p - t = ⊤ ∨ p - t = ⊥) := by
    rintro p t (rfl | rfl)
    · right; simp
    · induction p <;> simp
  induction t with
  | bot => rw [sp_bot]
  | top => rw [sp_top, abs_inf_sub _ c (inf p ⊤ (.inl rfl)), abs_inf_sub _ c (inf p ⊥ (.inr rfl))]
  | coe t => rw [sp_coe]

end Cert.Vq

end
-- ==== Proof.Nearest.lean ====
/- The nearest row of a table in the L1 distance, over the extended reals. -/
module

public import proofs.«01_k».proof.Proof.ArgMin

@[expose] public section

noncomputable section

namespace Cert.Vq

/-- The absolute difference. -/
def ad (a b : EReal) : EReal := max (a - b) (-(a - b))

/-- The L1 distance of a vector from row `k` of a table. -/
def l1 {n m : ℕ} (q : Fin m → EReal) (C : Fin n → Fin m → EReal) (k : Fin n) : EReal := ∑ d : Fin m, ad (q d) (C k d)

/-- The first row of the table nearest to a vector. -/
def near {n m : ℕ} [NeZero n] (q : Fin m → EReal) (C : Fin n → Fin m → EReal) : Fin n := least (l1 q C)

theorem ad_sp (q t : EReal) : ad q (sp t) = ad q t := abs_sub_sp q t

theorem ad_sub_sp (p t c : EReal) : ad (p - sp t) c = ad (p - t) c := abs_sub_sp_sub p t c

/-- Distances from a residual do not see whether the row subtracted was cut in three and added up again. -/
theorem l1_sub_sp {n m : ℕ} (p t : Fin m → EReal) (C : Fin n → Fin m → EReal) :
    l1 (fun d => p d - sp (t d)) C = l1 (fun d => p d - t d) C :=
  funext fun k => Finset.sum_congr rfl fun d _ => ad_sub_sp (p d) (t d) (C k d)

/-- Over 576 features taken as 36 slabs of 16. -/
theorem sum_slabs (f : Fin 576 → EReal) :
    ∑ n : Fin 36, ∑ j : Fin 16, f ⟨16 * n.val + j.val, by omega⟩ = ∑ d : Fin 576, f d := by
  rw [← Finset.sum_product', Finset.univ_product_univ]
  refine Fintype.sum_equiv (finProdFinEquiv (m := 36) (n := 16)) _ _ fun x => ?_
  congr 1
  apply Fin.ext
  simp [finProdFinEquiv]; omega

/-- The output row of a vector `p`: the row of `D` at the first nearest centroid, plus the row of `E` at the residual's
    first nearest residual centroid, either cut in three parts and added up again. -/
def quantised {n m l : ℕ} [NeZero n] (p : Fin m → EReal) (C R : Fin n → Fin m → EReal) (D E : Fin n → Fin l → EReal) (d : Fin l) : EReal :=
  sp (D (near p C) d) + sp (E (near (fun d => p d - C (near p C) d) R) d)

end Cert.Vq

end
-- ==== Proof.VqIdeal.lean ====
/- The vector steps of `VqModel` over the extended reals, entry by entry. -/
module

public import proofs.«01_k».proof.Proof.VqModel
public import proofs.«01_k».proof.Proof.Nearest
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Vq

open Cert.KernelIdeal Cert.KernelIdeal.Gen Idealize.ShloMosaic Cert.Vq

theorem top_word : Ideal.ofBits FTy.f32 2139095040#32 = ⊤ := by simp [Ideal.ofBits, Ideal.ieee]

theorem toInt_col : ∀ k : Fin 512, (BitVec.ofNat 32 k.val).toInt = k.val := by decide +kernel

/-- A column number, as the extended real it is converted to. -/
theorem ix_word (k : Fin 512) : (FloatOps.sitofp (F := Ideal) FTy.f32 (BitVec.ofNat 32 k.val) : EReal) = ix k := by
  show (((BitVec.ofNat 32 k.val).toInt : ℝ) : EReal) = ((k.val : ℝ) : EReal)
  rw [toInt_col]; simp

theorem ix_le_big (k : Fin 512) : ix k ≤ Ideal.ofBits FTy.f32 2137108966#32 := by
  have h : (k.val : ℝ) ≤ 512 := by exact_mod_cast k.isLt.le
  have e : Ideal.ofBits FTy.f32 2137108966#32 = (((14791142 : ℝ) * 2 ^ (104 : ℤ) : ℝ) : EReal) := by
    simp [Ideal.ofBits, Ideal.ieee, -EReal.coe_mul]
  rw [e, ix, EReal.coe_le_coe_iff]
  refine h.trans ?_
  norm_num

/-- One feature's share of the distance table. -/
theorem step_at (p : FVec Ideal S64x16 .f32) (c : FVec Ideal S16x512 .f32) (j : ℕ) (hj : j < 16) (acc : FVec Ideal S64x512 .f32)
    (r : Fin 64) (k : Fin 512) :
    step p c j hj acc (ix2 r k) = acc (ix2 r k) + ad (p (ix2 r ⟨j, hj⟩)) (c (ix2 ⟨j, hj⟩ k)) := by
  pointwise [step]
  rfl

/-- One slab's share. -/
theorem slab_at (p : FVec Ideal S64x16 .f32) (c : FVec Ideal S16x512 .f32) (acc : FVec Ideal S64x512 .f32) (r : Fin 64) (k : Fin 512) :
    slab p c acc (ix2 r k) = acc (ix2 r k) + ∑ j : Fin 16, ad (p (ix2 r j)) (c (ix2 j k)) := by
  simp only [slab, step_at, Fin.sum_univ_castSucc, Fin.sum_univ_zero, zero_add, add_assoc]
  rfl

/-- The table after `n` slabs. -/
theorem table_at (p : Fin 36 → FVec Ideal S64x16 .f32) (c : Fin 36 → FVec Ideal S16x512 .f32) (r : Fin 64) (k : Fin 512) :
    ∀ (n : ℕ) (h : n ≤ 36), table p c n h (ix2 r k)
      = ∑ i : Fin n, ∑ j : Fin 16, ad (p (i.castLE h) (ix2 r j)) (c (i.castLE h) (ix2 j k))
  | 0, h => by
    pointwise [table]
    simp
  | n + 1, h => by
    rw [table, slab_at, table_at p c r k n, Fin.sum_univ_castSucc (n := n)]
    rfl

theorem rowMin_at (a : FVec Ideal S64x512 .f32) (r : Fin 64) :
    rowMin a (ix1 r) = Finset.univ.fold min ⊤ fun k => a (ix2 r k) := by
  pointwise [rowMin]
  rw [top_word]

/-- The first column at which a row is smallest. -/
theorem first_at (a : FVec Ideal S64x512 .f32) (r : Fin 64) : first a (ix1 r) = ix (least fun k => a (ix2 r k)) := by
  pointwise [first, rowMin, atMin, spread, iot, big]
  rw [top_word, ← first_eq (fun k => a (ix2 r k)) _ ix_le_big]
  simp only [ix_word]

theorem onehot_at (i : FVec Ideal S64 .f32) (r : Fin 64) (k k0 : Fin 512) (h : i (ix1 r) = ix k0) :
    onehot i (ix2 r k) = if ix k = ix k0 then (1 : EReal) else 0 := by
  pointwise [onehot, spread, iot]
  rw [ix_word, h]
  show (((BitVec.setWidth 32 (BitVec.ofBool (decide (ix k = ix k0)))).toInt : ℝ) : EReal) = _
  split_ifs with e <;> simp [e]

theorem pick_at (o : FVec Ideal S64x512 .bf16) (a b c : FVec Ideal S1x512x576 .bf16) (C : Fin 512 → Fin 576 → EReal) (r : Fin 64)
    (d : Fin 576) (k0 : Fin 512) (ho : ∀ k, o (ix2 r k) = if ix k = ix k0 then (1 : EReal) else 0)
    (ha : ∀ k, a (ix3 0 k d) = C k d) (hb : ∀ k, b (ix3 0 k d) = C k d - C k d)
    (hc : ∀ k, c (ix3 0 k d) = (C k d - C k d) - (C k d - C k d)) :
    pick o a b c (ix2 r d) = sp (C k0 d) := by
  pointwise [pick]
  simp only [ho, ha, hb, hc]
  rw [sum_onehot k0 fun k => C k d, sum_onehot k0 fun k => C k d - C k d, sum_onehot k0 fun k => (C k d - C k d) - (C k d - C k d), sp]

theorem pickOut_at (o : FVec Ideal S64x512 .bf16) (a b c : FVec Ideal S1x512x128 .bf16) (C : Fin 512 → Fin 128 → EReal) (r : Fin 64)
    (d : Fin 128) (k0 : Fin 512) (ho : ∀ k, o (ix2 r k) = if ix k = ix k0 then (1 : EReal) else 0)
    (ha : ∀ k, a (ix3 0 k d) = C k d) (hb : ∀ k, b (ix3 0 k d) = C k d - C k d)
    (hc : ∀ k, c (ix3 0 k d) = (C k d - C k d) - (C k d - C k d)) :
    pickOut o a b c (ix2 r d) = sp (C k0 d) := by
  pointwise [pickOut]
  simp only [ho, ha, hb, hc]
  rw [sum_onehot k0 fun k => C k d, sum_onehot k0 fun k => C k d - C k d, sum_onehot k0 fun k => (C k d - C k d) - (C k d - C k d), sp]

theorem dist_at (q t : FVec Ideal S64x576 .f32) (r : Fin 64) : dist q t (ix1 r) = ∑ d : Fin 576, ad (q (ix2 r d)) (t (ix2 r d)) := by
  pointwise [dist]
  rfl

theorem swap_at (ia ib : FVec Ideal S64 .f32) (q ra rb : FVec Ideal S64x576 .f32) (r : Fin 64)
    (h : ¬(dist q rb (ix1 r) < dist q ra (ix1 r) ∨ (dist q rb (ix1 r) = dist q ra (ix1 r) ∧ ib (ix1 r) < ia (ix1 r)))) :
    swap ia ib q ra rb (ix1 r) = 0#1 := by
  rw [not_or, not_and] at h
  pointwise [swap]
  by_cases e : dist q rb (ix1 r) = dist q ra (ix1 r)
  · simp [h.1, e, h.2 e, IntOp.ori, IntOp.andi]
  · simp [h.1, e, IntOp.ori, IntOp.andi]

theorem sums_at0 (v : FVec Ideal S64x128 .f32) (d : Fin 128) : sums v (ix2 0 d) = ∑ r : Fin 64, v (ix2 r d) := by
  pointwise [sums]

theorem sums_at1 (v : FVec Ideal S64x128 .f32) (d : Fin 128) : sums v (ix2 1 d) = ∑ r : Fin 64, v (ix2 r d) * v (ix2 r d) := by
  pointwise [sums]

theorem sums_at2 (v : FVec Ideal S64x128 .f32) (i : Fin 8) (hi : 2 ≤ i.val) (d : Fin 128) : sums v (ix2 i d) = 0 := by
  pointwise [sums]
  rw [dif_neg (by omega), dif_neg (by omega)]

end Cert.KernelIdeal.Vq
end
end
-- ==== Proof.VqChoice.lean ====
/- The two choices of the body over the extended reals: the column chosen is the first nearest row of the table, the
   refinement between two candidates never changes it. -/
module

public import proofs.«01_k».proof.Proof.VqIdeal

@[expose] public section

set_option maxRecDepth 16384

noncomputable section

namespace Cert.KernelIdeal.Vq

open Cert.KernelIdeal Cert.KernelIdeal.Gen Idealize.ShloMosaic Cert.Vq

/-- The three parts of a table of 512 rows of 576, as the kernel is given them. -/
structure Parts (a b c : FVec Ideal S1x512x576 .bf16) (C : Fin 512 → Fin 576 → EReal) : Prop where
  hi : ∀ k d, a (ix3 0 k d) = C k d
  mid : ∀ k d, b (ix3 0 k d) = C k d - C k d
  lo : ∀ k d, c (ix3 0 k d) = (C k d - C k d) - (C k d - C k d)

/-- The three parts of a table of 512 rows of 128. -/
structure PartsOut (a b c : FVec Ideal S1x512x128 .bf16) (C : Fin 512 → Fin 128 → EReal) : Prop where
  hi : ∀ k d, a (ix3 0 k d) = C k d
  mid : ∀ k d, b (ix3 0 k d) = C k d - C k d
  lo : ∀ k d, c (ix3 0 k d) = (C k d - C k d) - (C k d - C k d)

section
variable (a : FVec Ideal S64x512 .f32) (q : FVec Ideal S64x576 .f32) (t0 t1 t2 : FVec Ideal S1x512x576 .bf16)
  (C : Fin 512 → Fin 576 → EReal) (ht : Parts t0 t1 t2 C)
  (ha : ∀ r k, a (ix2 r k) = l1 (fun d => q (ix2 r d)) C k) (r : Fin 64)
include ht

theorem pick_first_at (d : Fin 576) (i : FVec Ideal S64 .f32) (k0 : Fin 512) (h : i (ix1 r) = ix k0) :
    pick (onehot i) t0 t1 t2 (ix2 r d) = sp (C k0 d) :=
  pick_at _ _ _ _ C r d k0 (fun k => onehot_at i r k k0 h) (fun k => ht.hi k d) (fun k => ht.mid k d) (fun k => ht.lo k d)

theorem dist_pick_at (i : FVec Ideal S64 .f32) (k0 : Fin 512) (h : i (ix1 r) = ix k0) :
    dist q (pick (onehot i) t0 t1 t2) (ix1 r) = l1 (fun d => q (ix2 r d)) C k0 := by
  rw [dist_at]
  refine Finset.sum_congr rfl fun d _ => ?_
  rw [pick_first_at t0 t1 t2 C ht r d i k0 h, ad_sp]

include ha

theorem no_swap_at :
    swap (first a) (first (masked a)) q (pick (onehot (first a)) t0 t1 t2) (pick (onehot (first (masked a))) t0 t1 t2) (ix1 r)
      = 0#1 := by
  have e : (fun k => a (ix2 r k)) = l1 (fun d => q (ix2 r d)) C := funext (ha r)
  refine swap_at _ _ _ _ _ r ?_
  rw [dist_pick_at q t0 t1 t2 C ht r _ _ (first_at (masked a) r), dist_pick_at q t0 t1 t2 C ht r _ _ (first_at a r),
    first_at, first_at, e]
  exact no_swap _ _

/-- The column chosen is the first nearest row. -/
theorem chosen_at : chosen a q t0 t1 t2 (ix1 r) = ix (near (fun d => q (ix2 r d)) C) := by
  have e : (fun k => a (ix2 r k)) = l1 (fun d => q (ix2 r d)) C := funext (ha r)
  show (if _ then _ else _) = _
  rw [no_swap_at a q t0 t1 t2 C ht ha r, if_neg (by decide), first_at, e]
  rfl

/-- The residual is the row less the nearest row, cut in three and added up. -/
theorem resid_at (d : Fin 576) :
    resid a q t0 t1 t2 (ix2 r d) = q (ix2 r d) - sp (C (near (fun d => q (ix2 r d)) C) d) := by
  have e : (fun k => a (ix2 r k)) = l1 (fun d => q (ix2 r d)) C := funext (ha r)
  have h := no_swap_at a q t0 t1 t2 C ht ha r
  have hp := pick_first_at t0 t1 t2 C ht r d _ _ (first_at a r)
  rw [e] at hp
  generalize hs : swap (first a) (first (masked a)) q (pick (onehot (first a)) t0 t1 t2)
    (pick (onehot (first (masked a))) t0 t1 t2) = s at h
  rw [resid, hs]
  generalize pick (onehot (first a)) t0 t1 t2 = pa at hp
  generalize pick (onehot (first (masked a))) t0 t1 t2 = pb
  pointwise []
  rw [h, Scalar.select, if_neg (by decide), hp]
  rfl

end

/-- The output row is the sum of the two rows chosen, each cut in three and added up. -/
theorem outRows_at (i1 i2 : FVec Ideal S64 .f32) (d0 d1 d2 e0 e1 e2 : FVec Ideal S1x512x128 .bf16) (D E : Fin 512 → Fin 128 → EReal)
    (hd : PartsOut d0 d1 d2 D) (he : PartsOut e0 e1 e2 E) (r : Fin 64) (k1 k2 : Fin 512) (h1 : i1 (ix1 r) = ix k1)
    (h2 : i2 (ix1 r) = ix k2) (d : Fin 128) :
    outRows i1 i2 d0 d1 d2 e0 e1 e2 (ix2 r d) = sp (D k1 d) + sp (E k2 d) := by
  rw [← pickOut_at _ d0 d1 d2 D r d k1 (fun k => onehot_at i1 r k k1 h1) (fun k => hd.hi k d) (fun k => hd.mid k d) (fun k => hd.lo k d),
    ← pickOut_at _ e0 e1 e2 E r d k2 (fun k => onehot_at i2 r k k2 h2) (fun k => he.hi k d) (fun k => he.mid k d) (fun k => he.lo k d)]
  rfl

end Cert.KernelIdeal.Vq
end
end
-- ==== Proof.VqBlock.lean ====
/- What one run of the vector-quantisation body computes over the extended reals, from its seven input blocks: every
   output row is the sum of the two table rows chosen. -/
module

public import proofs.«01_k».proof.Proof.VqBody
public import proofs.«01_k».proof.Proof.VqChoice

@[expose] public section

set_option maxRecDepth 16384

noncomputable section

namespace Cert.KernelIdeal.Vq

open Cert.KernelIdeal Cert.KernelIdeal.Gen Idealize.ShloMosaic Cert.Vq

/-- What the tables of centroids hold: entry `(n, j, k)` is feature `16 n + j` of row `k`. -/
def Slabs (x : Vec Ideal S36x16x512 .f32) (C : Fin 512 → Fin 576 → EReal) : Prop :=
  ∀ (n : Fin 36) (j : Fin 16) (k : Fin 512), x (ix3 n j k) = C k ⟨16 * n.val + j.val, by omega⟩

/-- What the three-part tables hold: a value, what is left of it, what is left of that. -/
def Split (x : FVec Ideal S3x512x576 .bf16) (C : Fin 512 → Fin 576 → EReal) : Prop :=
  ∀ k d, x (ix3 0 k d) = C k d ∧ x (ix3 1 k d) = C k d - C k d ∧ x (ix3 2 k d) = (C k d - C k d) - (C k d - C k d)

/-- The same of an output table. -/
def SplitOut (x : FVec Ideal S3x512x128 .bf16) (C : Fin 512 → Fin 128 → EReal) : Prop :=
  ∀ k d, x (ix3 0 k d) = C k d ∧ x (ix3 1 k d) = C k d - C k d ∧ x (ix3 2 k d) = (C k d - C k d) - (C k d - C k d)

theorem unslab_at (v : FVec Ideal S1x64x16 .f32) (r : Fin 64) (j : Fin 16) :
    shapeCast S64x16 v shapeCasts_S1x64x16_S64x16 (ix2 r j) = v (ix3 0 r j) := by
  pointwise []

theorem slab_cast_at (v : FVec Ideal S64x16 .f32) (r : Fin 64) (j : Fin 16) :
    shapeCast S1x64x16 v shapeCasts_S64x16_S1x64x16 (ix3 0 r j) = v (ix2 r j) := by
  pointwise []

theorem untab_at (v : FVec Ideal S1x16x512 .f32) (j : Fin 16) (k : Fin 512) :
    shapeCast S16x512 v shapeCasts_S1x16x512_S16x512 (ix2 j k) = v (ix3 0 j k) := by
  pointwise []

section
variable (arg : Memref sig .tc .vmem S3x512x576 .bf16) (harg : arg.IsWhole) (x : Vec Ideal S3x512x576 .bf16)
  (argo : Memref sig .tc .vmem S3x512x128 .bf16) (hargo : argo.IsWhole) (xo : Vec Ideal S3x512x128 .bf16)

theorem part_at (k : Fin 3) (i : Fin 512) (d : Fin 576) : part arg harg x k (ix3 0 i d) = x (ix3 k i d) := by
  rw [part, harg.readAt_unread]
  exact View.ld_unit_apply_of x _ _ _ _ _ (fun | 0 => rfl | 1 => (Nat.zero_add _).symm | 2 => (Nat.zero_add _).symm)

theorem partOut_at (k : Fin 3) (i : Fin 512) (d : Fin 128) : partOut argo hargo xo k (ix3 0 i d) = xo (ix3 k i d) := by
  rw [partOut, hargo.readAt_unread]
  exact View.ld_unit_apply_of xo _ _ _ _ _ (fun | 0 => rfl | 1 => (Nat.zero_add _).symm | 2 => (Nat.zero_add _).symm)

theorem parts_of (C : Fin 512 → Fin 576 → EReal) (h : Split x C) : Parts (part arg harg x 0) (part arg harg x 1) (part arg harg x 2) C :=
  ⟨fun k d => by rw [part_at]; exact (h k d).1, fun k d => by rw [part_at]; exact (h k d).2.1,
    fun k d => by rw [part_at]; exact (h k d).2.2⟩

theorem partsOut_of (C : Fin 512 → Fin 128 → EReal) (h : SplitOut xo C) :
    PartsOut (partOut argo hargo xo 0) (partOut argo hargo xo 1) (partOut argo hargo xo 2) C :=
  ⟨fun k d => by rw [partOut_at]; exact (h k d).1, fun k d => by rw [partOut_at]; exact (h k d).2.1,
    fun k d => by rw [partOut_at]; exact (h k d).2.2⟩

end

section
variable (arg10 : Memref sig .tc .vmem S36x64x16 .f32) (arg : Memref sig .tc .vmem S36x16x512 .f32) (harg : arg.IsWhole)
  (x : Vec Ideal S36x16x512 .f32) (C : Fin 512 → Fin 576 → EReal)

/-- The distance table over stored slabs that hold the features of 64 rows. -/
theorem tableOf_at (f : Fin 36 → Vec Ideal S1x64x16 .f32) (L : List (View.Piece (Elt Ideal) S36x64x16 .f32)) (q : Fin 64 → Fin 576 → EReal)
    (hf : ∀ (n : Fin 36) (r : Fin 64) (j : Fin 16), f n (ix3 0 r j) = q r ⟨16 * n.val + j.val, by omega⟩) (hx : Slabs x C)
    (r : Fin 64) (k : Fin 512) :
    tableOf arg10 (stores f L 36 (Nat.le_refl _)) arg harg x (ix2 r k) = l1 (q r) C k := by
  rw [tableOf, table_at, l1, ← sum_slabs fun d => ad (q r d) (C k d)]
  refine Finset.sum_congr rfl fun n _ => Finset.sum_congr rfl fun j _ => ?_
  congr 1
  · exact (unslab_at _ r j).trans ((congrFun (readCov_stores arg10.view f L n 36 (Nat.le_refl _) n.isLt) (ix3 0 r j)).trans (hf n r j))
  · refine (untab_at _ j k).trans ((harg.readAt_unread x _ _).trans (Eq.trans ?_ (hx n j k)))
    exact View.ld_unit_apply_of x _ _ _ _ (ix3 n j k) (fun | 0 => rfl | 1 => (Nat.zero_add _).symm | 2 => (Nat.zero_add _).symm)

end

section
variable (arg1 : Memref sig .tc .vmem S64x576 .f32) (harg1 : arg1.IsWhole) (arg2 : Memref sig .tc .vmem S36x16x512 .f32) (harg2 : arg2.IsWhole)
  (arg3 : Memref sig .tc .vmem S36x16x512 .f32) (harg3 : arg3.IsWhole) (arg4 : Memref sig .tc .vmem S3x512x576 .bf16) (harg4 : arg4.IsWhole)
  (arg5 : Memref sig .tc .vmem S3x512x576 .bf16) (harg5 : arg5.IsWhole) (arg6 : Memref sig .tc .vmem S3x512x128 .bf16) (harg6 : arg6.IsWhole)
  (arg7 : Memref sig .tc .vmem S3x512x128 .bf16) (harg7 : arg7.IsWhole)
  (arg10 : Memref sig .tc .vmem S36x64x16 .f32) (arg11 : Memref sig .tc .vmem S64x576 .f32)
  (x0 : Vec Ideal S64x576 .f32) (x1 x2 : Vec Ideal S36x16x512 .f32) (x3 x4 : Vec Ideal S3x512x576 .bf16) (x5 x6 : Vec Ideal S3x512x128 .bf16)
  (C R : Fin 512 → Fin 576 → EReal) (D E : Fin 512 → Fin 128 → EReal)

theorem rows_eq : rows arg1 harg1 x0 = x0 := by
  funext y
  rw [rows, harg1.readAt_unread]
  exact View.ld_unit_apply_of x0 _ _ _ _ y (fun | 0 => (Nat.zero_add _).symm | 1 => (Nat.zero_add _).symm)

theorem tab1_at (h1 : Slabs x1 C) (r : Fin 64) (k : Fin 512) :
    tab1 arg1 harg1 arg2 harg2 arg10 x0 x1 (ix2 r k) = l1 (fun d => x0 (ix2 r d)) C k := by
  refine tableOf_at arg10 arg2 harg2 x1 C _ _ (fun r d => x0 (ix2 r d)) (fun n r j => ?_) h1 r k
  rw [slab_cast_at, harg1.readAt_unread]
  exact View.ld_unit_apply_of x0 _ _ _ _ _ (fun | 0 => (Nat.zero_add _).symm | 1 => rfl)

theorem res1_at (h1 : Slabs x1 C) (h3 : Split x3 C) (r : Fin 64) (d : Fin 576) :
    res1 arg1 harg1 arg2 harg2 arg4 harg4 arg10 x0 x1 x3 (ix2 r d)
      = x0 (ix2 r d) - sp (C (near (fun d => x0 (ix2 r d)) C) d) := by
  rw [res1, rows_eq]
  exact resid_at _ _ _ _ _ C (parts_of arg4 harg4 x3 C h3) (tab1_at arg1 harg1 arg2 harg2 arg10 x0 x1 C h1) r d

theorem res2_eq : res2 arg1 harg1 arg2 harg2 arg4 harg4 arg10 arg11 x0 x1 x3 = res1 arg1 harg1 arg2 harg2 arg4 harg4 arg10 x0 x1 x3 := by
  rw [res2, View.readCov_cons_toLoadRect]
  exact shapeCast_self _ _

theorem tab2_at (h1 : Slabs x1 C) (h2 : Slabs x2 R) (h3 : Split x3 C) (r : Fin 64) (k : Fin 512) :
    tab2 arg1 harg1 arg2 harg2 arg3 harg3 arg4 harg4 arg10 x0 x1 x2 x3 (ix2 r k)
      = l1 (fun d => res1 arg1 harg1 arg2 harg2 arg4 harg4 arg10 x0 x1 x3 (ix2 r d)) R k := by
  refine tableOf_at arg10 arg3 harg3 x2 R _ _
    (fun r d => res1 arg1 harg1 arg2 harg2 arg4 harg4 arg10 x0 x1 x3 (ix2 r d)) (fun n r j => ?_) h2 r k
  generalize res1 arg1 harg1 arg2 harg2 arg4 harg4 arg10 x0 x1 x3 = q
  rw [slab_cast_at]
  pointwise []

/-- The first column chosen: the row's first nearest centroid. -/
theorem col1_at (h1 : Slabs x1 C) (h3 : Split x3 C) (r : Fin 64) :
    col1 arg1 harg1 arg2 harg2 arg4 harg4 arg10 x0 x1 x3 (ix1 r) = ix (near (fun d => x0 (ix2 r d)) C) := by
  rw [col1, rows_eq]
  exact chosen_at _ _ _ _ _ C (parts_of arg4 harg4 x3 C h3) (tab1_at arg1 harg1 arg2 harg2 arg10 x0 x1 C h1) r

/-- The second: the residual's first nearest residual centroid. -/
theorem col2_at (h1 : Slabs x1 C) (h2 : Slabs x2 R) (h3 : Split x3 C) (h4 : Split x4 R) (r : Fin 64) :
    col2 arg1 harg1 arg2 harg2 arg3 harg3 arg4 harg4 arg5 harg5 arg10 arg11 x0 x1 x2 x3 x4 (ix1 r)
      = ix (near (fun d => x0 (ix2 r d) - C (near (fun d => x0 (ix2 r d)) C) d) R) := by
  rw [col2, res2_eq, chosen_at _ _ _ _ _ R (parts_of arg5 harg5 x4 R h4)
    (tab2_at arg1 harg1 arg2 harg2 arg3 harg3 arg4 harg4 arg10 x0 x1 x2 x3 C R h1 h2 h3) r]
  simp only [res1_at arg1 harg1 arg2 harg2 arg4 harg4 arg10 x0 x1 x3 C h1 h3, near]
  rw [l1_sub_sp (fun d => x0 (ix2 r d)) (fun d => C (least (l1 (fun d => x0 (ix2 r d)) C)) d) R]

/-- Every output row is the sum of the two rows chosen. -/
theorem outv_at (h1 : Slabs x1 C) (h2 : Slabs x2 R) (h3 : Split x3 C) (h4 : Split x4 R) (h5 : SplitOut x5 D) (h6 : SplitOut x6 E)
    (r : Fin 64) (d : Fin 128) :
    outv arg1 harg1 arg2 harg2 arg3 harg3 arg4 harg4 arg5 harg5 arg6 harg6 arg7 harg7 arg10 arg11 x0 x1 x2 x3 x4 x5 x6 (ix2 r d)
      = sp (D (near (fun d => x0 (ix2 r d)) C) d)
        + sp (E (near (fun d => x0 (ix2 r d) - C (near (fun d => x0 (ix2 r d)) C) d) R) d) :=
  outRows_at _ _ _ _ _ _ _ _ D E (partsOut_of arg6 harg6 x5 D h5) (partsOut_of arg7 harg7 x6 E h6) r _ _
    (col1_at arg1 harg1 arg2 harg2 arg4 harg4 arg10 x0 x1 x3 C h1 h3 r)
    (col2_at arg1 harg1 arg2 harg2 arg3 harg3 arg4 harg4 arg5 harg5 arg10 arg11 x0 x1 x2 x3 x4 C R h1 h2 h3 h4 r) d

end

end Cert.KernelIdeal.Vq
end
end
-- ==== Proof.VqTables.lean ====
/- The tables the host prepares for the vector-quantisation call: centroids turned and cut into slabs; a table cut into
   three parts, each a value and what the parts before leave of it. -/
module

public import proofs.«01_k».proof.Proof.VqBlock
public import Idealize.ShloMosaic.Lib.Claim

@[expose] public section

set_option maxRecDepth 16384

noncomputable section

namespace Cert.KernelIdeal.Vq

open Cert.KernelIdeal Cert.KernelIdeal.Gen Idealize.ShloMosaic Idealize.ShloMosaic.TcCoe Cert.Vq

section
variable {F : FTy → Type} [FloatOps F]

/-- Centroids turned and cut into 36 slabs of 16 features. -/
def slabsOf (t : FVec F S512x576 .f32) : FVec F S36x16x512 .f32 :=
  shapeCast S36x16x512 (transpose S576x512 [1, 0] t transposes_S512x576_S576x512_1_0) shapeCasts_S576x512_S36x16x512

/-- A value rounded to sixteen bits. -/
def rnd {s : Shape} (t : FVec F s .f32) : FVec F s .f32 := extf .f32 (truncf .bf16 t bitsLt_bf16_f32) bitsLt_bf16_f32

/-- One part, as a slab of the three. -/
def lay (t : FVec F S512x576 .f32) : FVec F S1x512x576 .bf16 :=
  broadcastInDim S1x512x576 ![1, 2] bcast_S512x576_S1x512x576_1_2 (truncf .bf16 t bitsLt_bf16_f32)

/-- The three parts of a table of centroids. -/
def cut (t : FVec F S512x576 .f32) : FVec F S3x512x576 .bf16 :=
  concatenate S3x512x576 0 [⟨S1x512x576, lay (rnd t)⟩, ⟨S1x512x576, lay (rnd (subf t (rnd t)))⟩,
    ⟨S1x512x576, lay (subf (subf t (rnd t)) (rnd (subf t (rnd t))))⟩] concatenates_S1x512x576_S1x512x576_S1x512x576_S3x512x576_d0

/-- One part of an output table. -/
def layOut (t : FVec F S512x128 .f32) : FVec F S1x512x128 .bf16 :=
  broadcastInDim S1x512x128 ![1, 2] bcast_S512x128_S1x512x128_1_2 (truncf .bf16 t bitsLt_bf16_f32)

/-- The three parts of an output table. -/
def cutOut (t : FVec F S512x128 .f32) : FVec F S3x512x128 .bf16 :=
  concatenate S3x512x128 0 [⟨S1x512x128, layOut (rnd t)⟩, ⟨S1x512x128, layOut (rnd (subf t (rnd t)))⟩,
    ⟨S1x512x128, layOut (subf (subf t (rnd t)) (rnd (subf t (rnd t))))⟩] concatenates_S1x512x128_S1x512x128_S1x512x128_S3x512x128_d0

end

theorem slabsOf_holds (t : FVec Ideal S512x576 .f32) : Slabs (slabsOf t) (fun k d => t (ix2 k d)) := by
  intro n j k
  pointwise [slabsOf]
  exact congrArg t (by congr 1; apply Fin.ext; show n.val * 16 + j.val = 16 * n.val + j.val; omega)

theorem lay_at (t : FVec Ideal S512x576 .f32) (k : Fin 512) (d : Fin 576) : lay t (ix3 0 k d) = t (ix2 k d) := by
  pointwise [lay]

theorem layOut_at (t : FVec Ideal S512x128 .f32) (k : Fin 512) (d : Fin 128) : layOut t (ix3 0 k d) = t (ix2 k d) := by
  pointwise [layOut]

theorem cut_holds (t : FVec Ideal S512x576 .f32) : Split (cut t) (fun k d => t (ix2 k d)) := by
  intro k d
  refine ⟨?_, ?_, ?_⟩
  · rw [cut]
    generalize hb : lay (rnd (subf t (rnd t))) = b
    generalize hc : lay (subf (subf t (rnd t)) (rnd (subf t (rnd t)))) = c
    pointwise []
    rw [lay_at]
    rfl
  · rw [cut]
    generalize ha : lay (rnd t) = a
    generalize hb : lay (rnd (subf t (rnd t))) = b
    generalize hc : lay (subf (subf t (rnd t)) (rnd (subf t (rnd t)))) = c
    pointwise []
    rw [← hb, lay_at]
    rfl
  · rw [cut]
    generalize ha : lay (rnd t) = a
    generalize hb : lay (rnd (subf t (rnd t))) = b
    generalize hc : lay (subf (subf t (rnd t)) (rnd (subf t (rnd t)))) = c
    pointwise []
    rw [← hc, lay_at]
    rfl

theorem cutOut_holds (t : FVec Ideal S512x128 .f32) : SplitOut (cutOut t) (fun k d => t (ix2 k d)) := by
  intro k d
  refine ⟨?_, ?_, ?_⟩
  · rw [cutOut]
    generalize hb : layOut (rnd (subf t (rnd t))) = b
    generalize hc : layOut (subf (subf t (rnd t)) (rnd (subf t (rnd t)))) = c
    pointwise []
    rw [layOut_at]
    rfl
  · rw [cutOut]
    generalize ha : layOut (rnd t) = a
    generalize hb : layOut (rnd (subf t (rnd t))) = b
    generalize hc : layOut (subf (subf t (rnd t)) (rnd (subf t (rnd t)))) = c
    pointwise []
    rw [← hb, layOut_at]
    rfl
  · rw [cutOut]
    generalize ha : layOut (rnd t) = a
    generalize hb : layOut (rnd (subf t (rnd t))) = b
    generalize hc : layOut (subf (subf t (rnd t)) (rnd (subf t (rnd t)))) = c
    pointwise []
    rw [← hc, layOut_at]
    rfl

end Cert.KernelIdeal.Vq
end
end
-- ==== Proof.VqEntry.lean ====
/- What the input blocks of the vector-quantisation call hold, from @main's arguments: the two tables of centroids turned
   and cut into slabs, the four tables cut into three parts. -/
module

public import proofs.«01_k».proof.Proof.VqTables
public import Idealize.ShloMosaic.Lib.Claim

@[expose] public section

set_option maxRecDepth 16384

noncomputable section

namespace Cert.KernelIdeal.Vq

open Cert.KernelIdeal Cert.KernelIdeal.Gen Idealize.ShloMosaic Idealize.ShloMosaic.TcCoe Cert.Vq

variable (m : (ℓ : Loc nD τ sig) → Buf (Elt Ideal) ℓ) (c : Dev nD)

theorem idx : ∀ t : Fin cfg0.N, win0_0.index t = ![t.val, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0]
    ∧ win0_7.index t = ![t.val, 0] ∧ win0_8.index t = ![0, 0] :=
  (by decide +kernel : ∀ t : Fin grid0.N, _)

theorem iblk1 (t : Fin cfg0.N) : iblk m c 1 t = V m c main_v1 := by blk_ext! [iblk, idx t]
theorem iblk2 (t : Fin cfg0.N) : iblk m c 2 t = V m c main_v3 := by blk_ext! [iblk, idx t]
theorem iblk3 (t : Fin cfg0.N) : iblk m c 3 t = V m c main_v16 := by blk_ext! [iblk, idx t]
theorem iblk4 (t : Fin cfg0.N) : iblk m c 4 t = V m c main_v29 := by blk_ext! [iblk, idx t]
theorem iblk5 (t : Fin cfg0.N) : iblk m c 5 t = V m c main_v42 := by blk_ext! [iblk, idx t]
theorem iblk6 (t : Fin cfg0.N) : iblk m c 6 t = V m c main_v55 := by blk_ext! [iblk, idx t]

theorem entry1 : V m c main_v1 = slabsOf (F := Ideal) (m ((c : Thread nD τ).loc main_arg1)) := by
  sl_kernel_rfl
theorem entry2 : V m c main_v3 = slabsOf (F := Ideal) (m ((c : Thread nD τ).loc main_arg2)) := by
  sl_kernel_rfl
theorem entry3 : V m c main_v16 = cut (F := Ideal) (m ((c : Thread nD τ).loc main_arg1)) := by
  sl_kernel_rfl
theorem entry4 : V m c main_v29 = cut (F := Ideal) (m ((c : Thread nD τ).loc main_arg2)) := by
  sl_kernel_rfl
theorem entry5 : V m c main_v42 = cutOut (F := Ideal) (m ((c : Thread nD τ).loc main_arg3)) := by
  sl_kernel_rfl
theorem entry6 : V m c main_v55 = cutOut (F := Ideal) (m ((c : Thread nD τ).loc main_arg4)) := by
  sl_kernel_rfl

end Cert.KernelIdeal.Vq
end
end
-- ==== Proof.Target.lean ====
/- The two arrays of the vector quantisation as functions of its five arguments: the output rows, and their sums and sums
   of squares over all the rows. -/
module

public import proofs.«01_k».proof.Proof.Nearest
public import Idealize.ShloMosaic.Lib.Pointwise

@[expose] public section

noncomputable section

namespace Cert.Vq

open Idealize.ShloMosaic

/-- An array of two axes as a matrix. -/
def mat {a b : ℕ} (X : (⟨2, ![a, b]⟩ : Shape).Idx → EReal) (r : Fin a) (d : Fin b) : EReal := X (ix2 r d)

section
variable (P : (⟨2, ![3136, 576]⟩ : Shape).Idx → EReal) (C R : (⟨2, ![512, 576]⟩ : Shape).Idx → EReal)
  (D E : (⟨2, ![512, 128]⟩ : Shape).Idx → EReal)

/-- Entry `d` of the output row of row `r`. -/
def valAt (r : Fin 3136) (d : Fin 128) : EReal := quantised (mat P r) (mat C) (mat R) (mat D) (mat E) d

/-- The output rows. -/
def valsOf : (⟨2, ![3136, 128]⟩ : Shape).Idx → EReal := fun i => valAt P C R D E (i 0) (i 1)

/-- Column sums in row 0, column sums of squares in row 1, zeros below. -/
def statsOf : (⟨2, ![8, 128]⟩ : Shape).Idx → EReal := fun i =>
  if (i 0 : ℕ) = 0 then ∑ r : Fin 3136, valAt P C R D E r (i 1)
  else if (i 0 : ℕ) = 1 then ∑ r : Fin 3136, valAt P C R D E r (i 1) * valAt P C R D E r (i 1)
  else 0

end
end Cert.Vq
end
end
-- ==== Proof.VqGrid.lean ====
/- What the vector-quantisation call's two arrays end holding: the quantised rows, and their sums and sums of squares over
   all the rows. -/
module

public import proofs.«01_k».proof.Proof.VqPoints
public import proofs.«01_k».proof.Proof.VqBlock
public import proofs.«01_k».proof.Proof.VqEntry
public import proofs.«01_k».proof.Proof.Target

@[expose] public section

set_option maxRecDepth 16384

noncomputable section

namespace Cert.KernelIdeal.Vq

open Cert.KernelIdeal Cert.KernelIdeal.Gen Idealize.ShloMosaic Idealize.ShloMosaic.TcCoe Cert.Vq

variable (m : (ℓ : Loc nD τ sig) → Buf (Elt Ideal) ℓ) (c : Dev nD)

/-- The row of the whole array at row `r` of point `t`'s block. -/
def rowOf (t : Fin cfg0.N) (r : Fin 64) : Fin 3136 :=
  ⟨64 * t.val + r.val, by have := lt_of_lt_of_eq t.isLt (show cfg0.N = 49 from N_0); omega⟩

/-- The values of the output rows on this device. -/
def outAt (r : Fin 3136) (d : Fin 128) : EReal :=
  valAt (m ((c : Thread nD τ).loc main_arg0)) (m ((c : Thread nD τ).loc main_arg1)) (m ((c : Thread nD τ).loc main_arg2))
    (m ((c : Thread nD τ).loc main_arg3)) (m ((c : Thread nD τ).loc main_arg4)) r d

theorem iblk0_at (t : Fin cfg0.N) (r : Fin 64) (d : Fin 576) :
    (iblk m c 0 t : Vec Ideal S64x576 .f32) (ix2 r d) = m ((c : Thread nD τ).loc main_arg0) (ix2 (rowOf t r) d) := by
  blk_ext! [iblk, idx t, rowOf]

theorem holds1 (t : Fin cfg0.N) : Slabs (iblk m c 1 t) (mat (m ((c : Thread nD τ).loc main_arg1))) :=
  (congrArg (fun x => Slabs x (mat (m ((c : Thread nD τ).loc main_arg1)))) ((iblk1 m c t).trans (entry1 m c))).mpr (slabsOf_holds _)
theorem holds2 (t : Fin cfg0.N) : Slabs (iblk m c 2 t) (mat (m ((c : Thread nD τ).loc main_arg2))) :=
  (congrArg (fun x => Slabs x (mat (m ((c : Thread nD τ).loc main_arg2)))) ((iblk2 m c t).trans (entry2 m c))).mpr (slabsOf_holds _)
theorem holds3 (t : Fin cfg0.N) : Split (iblk m c 3 t) (mat (m ((c : Thread nD τ).loc main_arg1))) :=
  (congrArg (fun x => Split x (mat (m ((c : Thread nD τ).loc main_arg1)))) ((iblk3 m c t).trans (entry3 m c))).mpr (cut_holds _)
theorem holds4 (t : Fin cfg0.N) : Split (iblk m c 4 t) (mat (m ((c : Thread nD τ).loc main_arg2))) :=
  (congrArg (fun x => Split x (mat (m ((c : Thread nD τ).loc main_arg2)))) ((iblk4 m c t).trans (entry4 m c))).mpr (cut_holds _)
theorem holds5 (t : Fin cfg0.N) : SplitOut (iblk m c 5 t) (mat (m ((c : Thread nD τ).loc main_arg3))) :=
  (congrArg (fun x => SplitOut x (mat (m ((c : Thread nD τ).loc main_arg3)))) ((iblk5 m c t).trans (entry5 m c))).mpr (cutOut_holds _)
theorem holds6 (t : Fin cfg0.N) : SplitOut (iblk m c 6 t) (mat (m ((c : Thread nD τ).loc main_arg4))) :=
  (congrArg (fun x => SplitOut x (mat (m ((c : Thread nD τ).loc main_arg4)))) ((iblk6 m c t).trans (entry6 m c))).mpr (cutOut_holds _)

/-- Point `t`'s rows are the output rows of its block. -/
theorem rowsAt_at (t : Fin cfg0.N) (r : Fin 64) (d : Fin 128) : rowsAt m c t (ix2 r d) = outAt m c (rowOf t r) d := by
  have hP : (fun d => (iblk m c 0 t : Vec Ideal S64x576 .f32) (ix2 r d)) = mat (m ((c : Thread nD τ).loc main_arg0)) (rowOf t r) :=
    funext fun d => iblk0_at m c t r d
  have h := outv_at (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 scM0_1 (iblk m c 0 t) (iblk m c 1 t) (iblk m c 2 t) (iblk m c 3 t)
    (iblk m c 4 t) (iblk m c 5 t) (iblk m c 6 t)
    (mat (m ((c : Thread nD τ).loc main_arg1))) (mat (m ((c : Thread nD τ).loc main_arg2)))
    (mat (m ((c : Thread nD τ).loc main_arg3))) (mat (m ((c : Thread nD τ).loc main_arg4)))
    (holds1 m c t) (holds2 m c t) (holds3 m c t) (holds4 m c t) (holds5 m c t) (holds6 m c t) r d
  exact h.trans (congrArg (fun p => quantised p (mat (m ((c : Thread nD τ).loc main_arg1))) (mat (m ((c : Thread nD τ).loc main_arg2)))
    (mat (m ((c : Thread nD τ).loc main_arg3))) (mat (m ((c : Thread nD τ).loc main_arg4))) d) hP)

/-- The first result ends as the output rows. -/
theorem vals_end : (dats m 0 c).arrAt 7 cfg0.N
    = valsOf (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 7 _ (by decide +kernel) fun t hf y => ?_
  blk_simp
  rw [after0_7, rows_left]
  have e : (win0_7.blk t).view.emb y = (ix2 (rowOf t (y 0)) (y 1) : S3136x128.Idx) := by
    blk_ext! [idx t, rowOf]
  rw [e]
  exact (congrArg (rowsAt m c t) (eq_ix2 (n0 := 64) (n1 := 128) y)).trans (rowsAt_at m c t (y 0) (y 1))

/-- What one point adds to the sums, at each place of the block. -/
def share (t : Fin cfg0.N) (i : S8x128.Idx) : EReal :=
  if (i 0 : ℕ) = 0 then ∑ r : Fin 64, outAt m c (rowOf t r) (i 1)
  else if (i 0 : ℕ) = 1 then ∑ r : Fin 64, outAt m c (rowOf t r) (i 1) * outAt m c (rowOf t r) (i 1)
  else 0

theorem sums_share (t : Fin cfg0.N) (i : S8x128.Idx) : sums (rowsAt m c t) i = share m c t i := by
  obtain ⟨a, d, rfl⟩ : ∃ (a : Fin 8) (d : Fin 128), i = ix2 a d := ⟨i 0, i 1, (ix2_eta i).symm⟩
  show _ = if (a : ℕ) = 0 then ∑ r : Fin 64, outAt m c (rowOf t r) d
    else if (a : ℕ) = 1 then ∑ r : Fin 64, outAt m c (rowOf t r) d * outAt m c (rowOf t r) d else 0
  by_cases h0 : (a : ℕ) = 0
  · obtain rfl : a = 0 := Fin.ext h0
    rw [if_pos h0, sums_at0]
    exact Finset.sum_congr rfl fun r _ => rowsAt_at m c t r d
  · by_cases h1 : (a : ℕ) = 1
    · obtain rfl : a = 1 := Fin.ext h1
      rw [if_neg h0, if_pos h1, sums_at1]
      exact Finset.sum_congr rfl fun r _ => by rw [rowsAt_at m c t r d]
    · rw [if_neg h0, if_neg h1, sums_at2 _ _ (by omega)]

theorem added_at (x y : FVec Ideal S8x128 .f32) (i : S8x128.Idx) : added x y i = x i + y i := by
  pointwise [added]

theorem zeros_at (i : S8x128.Idx) : zeros (F := Ideal) i = 0 := by
  pointwise [zeros]

/-- After the last point the scratch holds every point's share. -/
theorem sums_all (t : Fin cfg0.N) (h : t.val % 49 = 48) (i : S8x128.Idx) :
    (outsAt0 m c t.val t.isLt).2.2 i = ∑ p : Fin cfg0.N, share m c p i := by
  have hN : cfg0.N = 49 := N_0
  rw [Pipeline.eq_sum_fin_of_reset_step_apply_last (fun n h => (outsAt0 m c n h).2.2) 49 (fun _ => (0 : EReal)) (share m c)
    (fun t h i => by rw [sums_first m c t h]; rw [added_at, zeros_at, sums_share])
    (fun t h i => by rw [sums_next m c t h]; rw [added_at, sums_share])
    (le_of_eq N_0) t (by have := t.isLt; omega) i, zero_add]

/-- The shares of the points add up to the sums over all the rows. -/
theorem share_sum (f : Fin 3136 → EReal) : ∑ t : Fin cfg0.N, ∑ r : Fin 64, f (rowOf t r) = ∑ r : Fin 3136, f r :=
  Fin.sum_mul_add_congr (fun t r hl => congrArg f (Fin.ext (by show 64 * t.val + r.val = t.val * 64 + r.val; omega)))
    (by rw [show cfg0.N = 49 from N_0])

/-- The second result ends as the sums. -/
theorem stats_end : (dats m 0 c).arrAt 8 cfg0.N
    = statsOf (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 8 _ (by decide +kernel) fun t hf y => ?_
  have h1 := (flush0_8 t).mp hf
  blk_simp
  rw [after0_8, sums_left m c t h1]
  have e : (win0_8.blk t).view.emb y = (y : S8x128.Idx) := by
    blk_ext! [idx t]
  rw [e]
  refine (sums_all m c t h1 y).trans ?_
  unfold share statsOf
  by_cases h0 : ((y 0 : Fin 8) : ℕ) = 0
  · simp only [if_pos h0]
    exact share_sum fun r => outAt m c r (y 1)
  · by_cases h2 : ((y 0 : Fin 8) : ℕ) = 1
    · simp only [if_neg h0, if_pos h2]
      exact share_sum fun r => outAt m c r (y 1) * outAt m c r (y 1)
    · simp only [if_neg h0, if_neg h2]
      exact Finset.sum_const_zero

end Cert.KernelIdeal.Vq
end
end
-- ==== Proof.RefArgMin.lean ====
/- The reference's arg-min, a fold over (value, index) pairs, gives the first index at which a row is smallest. -/
module

public import proofs.«01_k».proof.Proof.Gen.ReferenceIdeal
public import proofs.«01_k».proof.Proof.Nearest
public import Idealize.ShloMosaic.Lib.Pointwise

@[expose] public section

noncomputable section

namespace Cert.ReferenceIdeal.Ref

open Cert.ReferenceIdeal Cert.ReferenceIdeal.Gen Idealize.ShloMosaic Cert.Vq

/-- One pair comes before another: a smaller value, or the same value at an index no greater. -/
def Before (p q : EReal × BitVec 32) : Prop := p.1 < q.1 ∨ (p.1 = q.1 ∧ p.2.toInt ≤ q.2.toInt)

theorem Before.refl (p : EReal × BitVec 32) : Before p p := Or.inr ⟨rfl, le_rfl⟩

theorem Before.trans {p q r : EReal × BitVec 32} (h : Before p q) (h' : Before q r) : Before p r := by
  rcases h with h | ⟨h, k⟩ <;> rcases h' with h' | ⟨h', k'⟩
  · exact Or.inl (h.trans h')
  · exact Or.inl (h' ▸ h)
  · exact Or.inl (h ▸ h')
  · exact Or.inr ⟨h.trans h', k.trans k'⟩

/-- The step of the arg-min, by cases. -/
theorem step_eq (a b : EReal) (i j : BitVec 32) :
    reducer_argmin_f32_i32 (F := Ideal) (a, i) (b, j)
      = (if a < b then a else b, if a < b ∨ (a = b ∧ i.toInt < j.toInt) then i else j) := by
  by_cases h : a < b <;> by_cases h2 : a = b <;> by_cases h3 : i.toInt < j.toInt <;>
    simp [reducer_argmin_f32_i32, Ideal.cmpf_def, Ideal.cmp, IntOp.ori, IntOp.andi, IntOp.cmpi, Scalar.select, BitVec.slt, h, h2, h3]

/-- The step of the arg-min keeps one of its two pairs, and that one comes before both. -/
theorem step_of (p q : EReal × BitVec 32) :
    (reducer_argmin_f32_i32 (F := Ideal) p q = p ∨ reducer_argmin_f32_i32 (F := Ideal) p q = q)
      ∧ Before (reducer_argmin_f32_i32 (F := Ideal) p q) p ∧ Before (reducer_argmin_f32_i32 (F := Ideal) p q) q := by
  obtain ⟨a, i⟩ := p
  obtain ⟨b, j⟩ := q
  rw [step_eq]
  rcases lt_trichotomy a b with h | h | h
  · rw [if_pos h, if_pos (Or.inl h)]
    exact ⟨Or.inl rfl, Before.refl _, Or.inl h⟩
  · subst h
    by_cases k : i.toInt < j.toInt
    · rw [if_neg (lt_irrefl a), if_pos (Or.inr ⟨rfl, k⟩)]
      exact ⟨Or.inl rfl, Before.refl _, Or.inr ⟨rfl, k.le⟩⟩
    · rw [if_neg (lt_irrefl a), if_neg (by rintro (h | ⟨_, h⟩); exacts [lt_irrefl a h, k h])]
      exact ⟨Or.inr rfl, Or.inr ⟨rfl, not_lt.mp k⟩, Before.refl _⟩
  · rw [if_neg h.not_gt, if_neg (by rintro (k | ⟨k, _⟩); exacts [h.not_gt k, h.ne' k])]
    exact ⟨Or.inr rfl, Or.inl h, Before.refl _⟩

/-- The fold of the step keeps one of its pairs, and that one comes before all of them. -/
theorem fold_of : ∀ (L : List (EReal × BitVec 32)) (p : EReal × BitVec 32),
    (L.foldl (reducer_argmin_f32_i32 (F := Ideal)) p = p ∨ L.foldl (reducer_argmin_f32_i32 (F := Ideal)) p ∈ L)
      ∧ Before (L.foldl (reducer_argmin_f32_i32 (F := Ideal)) p) p
      ∧ ∀ q ∈ L, Before (L.foldl (reducer_argmin_f32_i32 (F := Ideal)) p) q
  | [], p => ⟨Or.inl rfl, Before.refl p, fun _ h => absurd h List.not_mem_nil⟩
  | q :: L, p => by
    obtain ⟨hk, hb, hL⟩ := fold_of L (reducer_argmin_f32_i32 (F := Ideal) p q)
    obtain ⟨sk, sp, sq⟩ := step_of p q
    rw [List.foldl_cons]
    refine ⟨?_, hb.trans sp, fun r hr => ?_⟩
    · rcases hk with hk | hk
      · rw [hk]
        exact sk.imp id fun h => List.mem_cons.mpr (Or.inl h)
      · exact Or.inr (List.mem_cons_of_mem _ hk)
    · rcases List.mem_cons.mp hr with rfl | hr
      · exact hb.trans sq
      · exact hL r hr

/-- A list that holds exactly a row's entries with their positions: the fold from the greatest value gives the first
    index at which the row is smallest. -/
theorem fold_least (f : Fin 512 → EReal) (L : List (EReal × BitVec 32))
    (hL : ∀ p, p ∈ L ↔ ∃ k : Fin 512, p = (f k, BitVec.ofNat 32 k.val)) :
    (L.foldl (reducer_argmin_f32_i32 (F := Ideal)) (⊤, 0#32)).2 = BitVec.ofNat 32 (least f).val := by
  obtain ⟨hk, _, hb⟩ := fold_of L (⊤, 0#32)
  have toInt (k : Fin 512) : (BitVec.ofNat 32 k.val).toInt = (k.val : ℤ) := by
    rw [BitVec.toInt_eq_toNat_of_lt (by rw [BitVec.toNat_ofNat]; omega), BitVec.toNat_ofNat, Nat.mod_eq_of_lt (by omega)]
  have all (k : Fin 512) := hb _ ((hL _).mpr ⟨k, rfl⟩)
  rcases hk with hk | hk
  · rw [hk] at all ⊢
    have top (k : Fin 512) : f k = ⊤ := by
      rcases all k with h | h
      · exact absurd h not_top_lt
      · exact h.1.symm
    rw [← eq_least f 0 (fun j => by rw [top 0, top j]) (fun j hj => absurd hj (Fin.not_lt_zero j))]
    rfl
  · obtain ⟨k, hk⟩ := (hL _).mp hk
    rw [hk] at all ⊢
    show BitVec.ofNat 32 k.val = _
    rw [← eq_least f k (fun j => (all j).elim le_of_lt fun h => h.1.le) fun j hj => ?_]
    rcases all j with h | h
    · exact h
    · have := h.2
      rw [toInt, toInt] at this
      exact absurd hj (not_lt.mpr (Fin.le_def.mpr (by exact_mod_cast this)))

end Cert.ReferenceIdeal.Ref
end
end
-- ==== Proof.TakeRows.lean ====
/- A gather of whole rows of a table, at row numbers that name rows of it, reads those rows. -/
module

public import Idealize.ShloMosaic.Lib.Pointwise

@[expose] public section

noncomputable section

namespace Cert.Vq

open Idealize.ShloMosaic

/-- One row of the table for every index: entry `(a, r, d)` of the result is entry `d` of the row that index `(a, r)` names. -/
theorem take_rows {α : Type} {A B n m : ℕ} (g : GatherDims ⟨2, ![n, m]⟩ ⟨3, ![A, B, 1]⟩ ⟨3, ![A, B, m]⟩)
    (h1 : g.offsetDims = [2]) (h2 : g.collapsedSliceDims = [0]) (h3 : g.operandBatchingDims = [])
    (h4 : g.startIndicesBatchingDims = []) (h5 : g.startIndexMap = [0]) (h6 : g.indexVectorDim = 2) (h7 : g.sliceSizes = ![1, m])
    (x : (⟨2, ![n, m]⟩ : Shape).Idx → α) (i : IVec ⟨3, ![A, B, 1]⟩ 32) (a : Fin A) (r : Fin B) (d : Fin m) (k : Fin n)
    (h : i (ix3 a r 0) = BitVec.ofNat 32 k.val) (hn : n ≤ 2 ^ 31) :
    Host.gather g x i (ix3 a r d) = x (ix2 k d) := by
  obtain ⟨o, c, ob, sb, sm, iv, sz, wf⟩ := g
  subst h1 h2 h3 h4 h5 h6 h7
  have hk : (BitVec.ofNat 32 k.val).toInt.toNat = k.val := by
    rw [BitVec.toInt_eq_toNat_of_lt (by rw [BitVec.toNat_ofNat]; omega), BitVec.toNat_ofNat, Nat.mod_eq_of_lt (by omega)]
    rfl
  unfold Host.gather
  congr 1
  funext b
  refine Fin.ext ?_
  show GatherDims.start _ _ i b + GatherDims.batchCoord _ _ b + GatherDims.offCoord _ _ b = _
  rw [GatherDims.batchCoord_eq_zero _ _ _ List.not_mem_nil, Nat.add_zero]
  match b with
  | ⟨0, _⟩ =>
    rw [GatherDims.offCoord_eq_zero _ _ _ (fun h => ((GatherDims.mem_sKept _ _).mp h).1 (List.mem_singleton.mpr rfl)), Nat.add_zero]
    refine (dif_pos (List.mem_singleton.mpr rfl)).trans ?_
    have e : ∀ q, (i q).toInt.toNat = k.val → min (i q).toInt.toNat (n - 1) = k.val := fun q hq => by rw [hq]; omega
    refine e _ (Eq.trans (congrArg (fun q => (i q).toInt.toNat) (?_ : _ = ix3 a r 0)) ((congrArg (fun q : BitVec 32 => q.toInt.toNat) h).trans hk))
    funext p
    refine Fin.ext ?_
    match p with
    | ⟨0, _⟩ => rfl
    | ⟨1, _⟩ => rfl
    | ⟨2, _⟩ => rfl
  | ⟨1, _⟩ =>
    refine (congrArg (· + _) (dif_neg (fun h => Nat.one_ne_zero (congrArg Fin.val (List.mem_singleton.mp h))))).trans ?_
    refine (Nat.zero_add _).trans ((dif_pos ((GatherDims.mem_sKept _ _).mpr ⟨fun h => Nat.one_ne_zero (congrArg Fin.val (List.mem_singleton.mp h)),
      List.not_mem_nil⟩)).trans ?_)
    rfl

end Cert.Vq
end
end
-- ==== Proof.RefDist.lean ====
/- The reference's distances and the index of the nearest row, read at an entry over the extended reals. -/
module

public import proofs.«01_k».proof.Proof.RefArgMin
public import proofs.«01_k».proof.Proof.TakeRows

@[expose] public section

set_option maxRecDepth 16384

noncomputable section

namespace Cert.ReferenceIdeal.Ref

open Cert.ReferenceIdeal Cert.ReferenceIdeal.Gen Idealize.ShloMosaic Cert.Vq

/-- The L1 distances of every row to every row of a table. -/
def dist (X : FVec Ideal S4x784x576 .f32) (C : FVec Ideal S512x576 .f32) : FVec Ideal S4x784x512 .f32 :=
  Host.reduceAdd (Host.absf (subf
      (broadcastInDim S4x784x512x576 ![0, 1, 2, 3] bcast_S4x784x1x576_S4x784x512x576_0_1_2_3
        (broadcastInDim S4x784x1x576 ![0, 1, 3] bcast_S4x784x576_S4x784x1x576_0_1_3 X))
      (broadcastInDim S4x784x512x576 ![0, 1, 2, 3] bcast_S1x1x512x576_S4x784x512x576_0_1_2_3
        (broadcastInDim S1x1x512x576 ![2, 3] bcast_S512x576_S1x1x512x576_2_3 C))))
    (constant S_ .f32 0x00000000#32) reducesTo_S4x784x512x576_S4x784x512_d3 h_S_

/-- The index of the least distance of every row. -/
def nearest (D : FVec Ideal S4x784x512 .f32) : IVec S4x784 32 := fun j =>
  (Host.argReduce reducer_argmin_f32_i32 D (iotaInDim S4x784x512 32 2) (constant S_ .f32 0x7F800000#32) (constantI S_ 32 0#32)
    reducesTo_S4x784x512_S4x784_d2 h_S_ j).2

theorem dist_at (X : FVec Ideal S4x784x576 .f32) (C : FVec Ideal S512x576 .f32) (a : Fin 4) (r : Fin 784) (k : Fin 512) :
    dist X C (ix3 a r k) = l1 (fun d => X (ix3 a r d)) (fun k d => C (ix2 k d)) k := by
  pointwise [dist, l1, ad]
  rfl

theorem drop_at (a : Fin 4) (r : Fin 784) (k : Fin 512) : reducesTo_S4x784x512_S4x784_d2.drop (ix3 a r k) = ix2 a r := by
  funext b
  apply Fin.ext
  match b with
  | ⟨0, _⟩ => rfl
  | ⟨1, _⟩ => rfl

/-- The arg-min of a row's distances is the first index at which they are least. -/
theorem nearest_at (D : FVec Ideal S4x784x512 .f32) (a : Fin 4) (r : Fin 784) :
    nearest D (ix2 a r) = BitVec.ofNat 32 (least fun k => D (ix3 a r k)).val := by
  unfold nearest
  rw [Ideal.argReduce_eq_reduce2, Host.reduce2_eq_foldl_fiber]
  have top : constant (F := Ideal) S_ .f32 0x7F800000#32 (Shape.Idx.first h_S_) = (⊤ : EReal) := by
    simp [constant, Ideal.ofBits, Ideal.ieee]
  rw [top]
  refine fold_least (fun k => D (ix3 a r k)) _ fun p => ?_
  simp only [Host.argReduceFiber, List.mem_map, List.mem_filter, List.mem_finRange, true_and, decide_eq_true_eq]
  constructor
  · rintro ⟨n, hn, rfl⟩
    generalize S4x784x512.rowMajor.symm n = i at hn ⊢
    obtain ⟨b, q, k, rfl⟩ : ∃ (b : Fin 4) (q : Fin 784) (k : Fin 512), i = ix3 b q k := ⟨i 0, i 1, i 2, (ix3_eta i).symm⟩
    rw [drop_at] at hn
    obtain rfl : b = a := congrFun hn 0
    obtain rfl : q = r := congrFun hn 1
    exact ⟨k, rfl⟩
  · rintro ⟨k, rfl⟩
    refine ⟨S4x784x512.rowMajor (ix3 a r k), ?_, ?_⟩
    · rw [Equiv.symm_apply_apply, drop_at]
    · rw [Equiv.symm_apply_apply]
      rfl

end Cert.ReferenceIdeal.Ref
end
end
-- ==== Proof.RefModel.lean ====
/- The reference's operations, part by part, and each part read at an entry over the extended reals. -/
module

public import proofs.«01_k».proof.Proof.RefDist
public import proofs.«01_k».proof.Proof.TakeRows

@[expose] public section

set_option maxRecDepth 16384

noncomputable section

namespace Cert.ReferenceIdeal.Ref

open Cert.ReferenceIdeal Cert.ReferenceIdeal.Gen Idealize.ShloMosaic Cert.Vq

/-- An index as a row number: a negative one counts from the end. -/
def start (I : IVec S4x784 32) : IVec S4x784x1 32 :=
  broadcastInDim S4x784x1 ![0, 1] bcast_S4x784_S4x784x1_0_1
    (select (cmpi .slt I (broadcastInDim S4x784 ![] bcast_S_S4x784 (constantI S_ 32 0#32)))
      (addi I (broadcastInDim S4x784 ![] bcast_S_S4x784 (constantI S_ 32 512#32))) I)

/-- The rows of a table of centroids at the indices. -/
def rowsOf (C : FVec Ideal S512x576 .f32) (I : IVec S4x784 32) : FVec Ideal S4x784x576 .f32 :=
  Host.gather gather_S512x576_S4x784x1_S4x784x576_2_0_n_n_0_2_1576 C (start I)

/-- The rows of an output table at the indices. -/
def outsOf (D : FVec Ideal S512x128 .f32) (I : IVec S4x784 32) : FVec Ideal S4x784x128 .f32 :=
  Host.gather gather_S512x128_S4x784x1_S4x784x128_2_0_n_n_0_2_1128 D (start I)

/-- The output rows, block by block. -/
def vals (X : FVec Ideal S4x784x576 .f32) (C R : FVec Ideal S512x576 .f32) (D E : FVec Ideal S512x128 .f32) : FVec Ideal S4x784x128 .f32 :=
  addf (outsOf D (nearest (dist X C))) (outsOf E (nearest (dist (subf X (rowsOf C (nearest (dist X C)))) R)))

theorem start_at (I : IVec S4x784 32) (a : Fin 4) (r : Fin 784) (k : Fin 512) (h : I (ix2 a r) = BitVec.ofNat 32 k.val) :
    start I (ix3 a r 0) = BitVec.ofNat 32 k.val := by
  pointwise [start]
  rw [h]
  have neg : IntOp.cmpi .slt (BitVec.ofNat 32 k.val) 0#32 = 0#1 := by
    have : (BitVec.ofNat 32 k.val).toInt = (k.val : ℤ) := by
      rw [BitVec.toInt_eq_toNat_of_lt (by rw [BitVec.toNat_ofNat]; omega), BitVec.toNat_ofNat, Nat.mod_eq_of_lt (by omega)]
    simp only [IntOp.cmpi, BitVec.slt, this, BitVec.toInt_zero]
    rw [decide_eq_false (by omega)]
    rfl
  rw [neg]
  rfl

theorem rowsOf_at (C : FVec Ideal S512x576 .f32) (I : IVec S4x784 32) (a : Fin 4) (r : Fin 784) (d : Fin 576) (k : Fin 512)
    (h : I (ix2 a r) = BitVec.ofNat 32 k.val) : rowsOf C I (ix3 a r d) = C (ix2 k d) :=
  take_rows _ rfl rfl rfl rfl rfl rfl rfl C (start I) a r d k (start_at I a r k h) (by norm_num)

theorem outsOf_at (D : FVec Ideal S512x128 .f32) (I : IVec S4x784 32) (a : Fin 4) (r : Fin 784) (d : Fin 128) (k : Fin 512)
    (h : I (ix2 a r) = BitVec.ofNat 32 k.val) : outsOf D I (ix3 a r d) = D (ix2 k d) :=
  take_rows _ rfl rfl rfl rfl rfl rfl rfl D (start I) a r d k (start_at I a r k h) (by norm_num)

/-- The reference's output rows, at an entry. -/
theorem vals_at (X : FVec Ideal S4x784x576 .f32) (C R : FVec Ideal S512x576 .f32) (D E : FVec Ideal S512x128 .f32)
    (a : Fin 4) (r : Fin 784) (d : Fin 128) :
    vals X C R D E (ix3 a r d)
      = D (ix2 (near (fun d => X (ix3 a r d)) (fun k d => C (ix2 k d))) d)
        + E (ix2 (near (fun d => X (ix3 a r d) - C (ix2 (near (fun d => X (ix3 a r d)) (fun k d => C (ix2 k d))) d))
            (fun k d => R (ix2 k d))) d) := by
  have h1 : nearest (dist X C) (ix2 a r) = BitVec.ofNat 32 (near (fun d => X (ix3 a r d)) (fun k d => C (ix2 k d))).val := by
    rw [nearest_at]
    simp only [dist_at]
    rfl
  have h2 : nearest (dist (subf X (rowsOf C (nearest (dist X C)))) R) (ix2 a r)
      = BitVec.ofNat 32 (near (fun d => X (ix3 a r d) - C (ix2 (near (fun d => X (ix3 a r d)) (fun k d => C (ix2 k d))) d))
            (fun k d => R (ix2 k d))).val := by
    have e (d : Fin 576) : subf X (rowsOf C (nearest (dist X C))) (ix3 a r d)
        = X (ix3 a r d) - C (ix2 (near (fun d => X (ix3 a r d)) (fun k d => C (ix2 k d))) d) :=
      congrArg (X (ix3 a r d) - ·) (rowsOf_at C _ a r d _ h1)
    rw [nearest_at]
    simp only [dist_at, e]
    rfl
  exact congrArg₂ (· + ·) (outsOf_at D _ a r d _ h1) (outsOf_at E _ a r d _ h2)

end Cert.ReferenceIdeal.Ref
end
end
-- ==== Proof.RefStats.lean ====
/- The reference's sums and sums of squares, read at an entry over the extended reals. -/
module

public import proofs.«01_k».proof.Proof.RefArgMin
public import proofs.«01_k».proof.Proof.TakeRows

@[expose] public section

set_option maxRecDepth 16384

noncomputable section

namespace Cert.ReferenceIdeal.Ref

open Cert.ReferenceIdeal Cert.ReferenceIdeal.Gen Idealize.ShloMosaic Cert.Vq

open Finset in
/-- A sum over both outer axes, at an entry. -/
theorem outer_sum (v : FVec Ideal S4x784x128 .f32) (d : Fin 128) :
    Host.reduceAdd v (constant S_ .f32 0x00000000#32) reducesTo_S4x784x128_S128_d0_1 h_S_ (ix1 d)
      = ∑ a : Fin 4, ∑ r : Fin 784, v (ix3 a r d) := by
  have zero : constant (F := Ideal) S_ .f32 0x00000000#32 (Shape.Idx.first h_S_) = (0 : EReal) := by
    simp [constant, Ideal.ofBits, Ideal.ieee]
  have drop (a : Fin 4) (r : Fin 784) (e : Fin 128) : reducesTo_S4x784x128_S128_d0_1.drop (ix3 a r e) = ix1 e := by
    funext b
    apply Fin.ext
    match b with
    | ⟨0, _⟩ => rfl
  have eqv (e : Fin 128) : (ix1 e : S128.Idx) = ix1 d ↔ e = d := ⟨fun h => congrFun h 0, fun h => h ▸ rfl⟩
  show Ideal.hostReduceAdd reducesTo_S4x784x128_S128_d0_1 v _ (ix1 d) = _
  rw [Ideal.hostReduceAdd, zero, zero_add, Finset.sum_filter, sum_idx3]
  refine Finset.sum_congr rfl fun a _ => Finset.sum_congr rfl fun r _ => ?_
  simp only [drop, eqv]
  rw [Finset.sum_ite_eq' Finset.univ d, if_pos (Finset.mem_univ d)]

/-- The sums and sums of squares of the output rows. -/
def stats (v : FVec Ideal S4x784x128 .f32) : FVec Ideal S8x128 .f32 :=
  concatenate S8x128 0
    [⟨S1x128, broadcastInDim S1x128 ![1] bcast_S128_S1x128_1
        (Host.reduceAdd v (constant S_ .f32 0x00000000#32) reducesTo_S4x784x128_S128_d0_1 h_S_)⟩,
      ⟨S1x128, broadcastInDim S1x128 ![1] bcast_S128_S1x128_1
        (Host.reduceAdd (mulf v v) (constant S_ .f32 0x00000000#32) reducesTo_S4x784x128_S128_d0_1 h_S_)⟩,
      ⟨S6x128, broadcastInDim S6x128 ![] bcast_S_S6x128 (constant S_ .f32 0x00000000#32)⟩]
    concatenates_S1x128_S1x128_S6x128_S8x128_d0

theorem stats_at (v : FVec Ideal S4x784x128 .f32) (i : Fin 8) (d : Fin 128) :
    stats v (ix2 i d) = if (i : ℕ) = 0 then ∑ a : Fin 4, ∑ r : Fin 784, v (ix3 a r d)
      else if (i : ℕ) = 1 then ∑ a : Fin 4, ∑ r : Fin 784, v (ix3 a r d) * v (ix3 a r d) else 0 := by
  unfold stats
  have squares : (∑ a : Fin 4, ∑ r : Fin 784, v (ix3 a r d) * v (ix3 a r d))
      = Host.reduceAdd (mulf v v) (constant S_ .f32 0x00000000#32) reducesTo_S4x784x128_S128_d0_1 h_S_ (ix1 d) :=
    (outer_sum (mulf v v) d).symm
  rw [← outer_sum v d, squares]
  generalize Host.reduceAdd v (constant S_ .f32 0x00000000#32) reducesTo_S4x784x128_S128_d0_1 h_S_ = s
  generalize Host.reduceAdd (mulf v v) (constant S_ .f32 0x00000000#32) reducesTo_S4x784x128_S128_d0_1 h_S_ = ss
  pointwise []
  by_cases h0 : (i : ℕ) = 0
  · rw [dif_pos (by omega), if_pos h0]
  · by_cases h1 : (i : ℕ) = 1
    · rw [dif_neg (by omega), dif_pos (by omega), if_neg h0, if_pos h1]
    · rw [dif_neg (by omega), dif_neg (by omega), if_neg h0, if_neg h1]

end Cert.ReferenceIdeal.Ref
end
end
-- ==== Proof.RefTotal.lean ====
/- The reference's two results are the target arrays, where the output tables are finite. -/
module

public import proofs.«01_k».proof.Proof.RefModel
public import proofs.«01_k».proof.Proof.RefStats
public import proofs.«01_k».proof.Proof.Target
public import Idealize.ShloMosaic.Lib.Pipeline.ValueKit

@[expose] public section

set_option maxRecDepth 16384

noncomputable section

namespace Cert.ReferenceIdeal.Ref

open Cert.ReferenceIdeal Cert.ReferenceIdeal.Gen Idealize.ShloMosaic Cert.Vq

/-- A finite number is the sum of its three parts. -/
theorem sp_of_finite {x : EReal} (h : x ≠ ⊤ ∧ x ≠ ⊥) : sp x = x := by
  lift x to ℝ using h
  exact sp_coe x

/-- Row `r` of image `a` is row `784 a + r` of the stacked rows. -/
def row (a : Fin 4) (r : Fin 784) : Fin 3136 := ⟨a.val * 784 + r.val, by omega⟩

theorem stacked (P : FVec Ideal S3136x576 .f32) (a : Fin 4) (r : Fin 784) (d : Fin 576) :
    shapeCast S4x784x576 P shapeCasts_S3136x576_S4x784x576 (ix3 a r d) = P (ix2 (row a r) d) := by
  pointwise []
  rfl

section
variable (P : FVec Ideal S3136x576 .f32) (C R : FVec Ideal S512x576 .f32) (D E : FVec Ideal S512x128 .f32)
  (hD : ∀ i, D i ≠ ⊤ ∧ D i ≠ ⊥) (hE : ∀ i, E i ≠ ⊤ ∧ E i ≠ ⊥)
include hD hE

theorem vals_row (a : Fin 4) (r : Fin 784) (d : Fin 128) :
    vals (shapeCast S4x784x576 P shapeCasts_S3136x576_S4x784x576) C R D E (ix3 a r d) = valAt P C R D E (row a r) d := by
  rw [vals_at]
  simp only [stacked]
  exact (congrArg₂ (· + ·) (sp_of_finite (hD _)) (sp_of_finite (hE _))).symm

theorem vals_total : shapeCast S3136x128 (vals (shapeCast S4x784x576 P shapeCasts_S3136x576_S4x784x576) C R D E)
    shapeCasts_S4x784x128_S3136x128 = valsOf P C R D E := by
  funext i
  have e : i = ix2 (row ⟨(i 0).val / 784, by have := (i 0).isLt; change (i 0).val < 3136 at this; omega⟩ ⟨(i 0).val % 784, Nat.mod_lt _ (by norm_num)⟩) (i 1) := by
    funext b
    apply Fin.ext
    match b with
    | ⟨0, _⟩ => exact (Nat.div_add_mod' (i 0).val 784).symm
    | ⟨1, _⟩ => rfl
  rw [e]
  generalize (⟨(i 0).val / 784, _⟩ : Fin 4) = a
  generalize (⟨(i 0).val % 784, _⟩ : Fin 784) = r
  generalize (i 1 : Fin 128) = d
  refine Eq.trans ?_ (vals_row P C R D E hD hE a r d)
  generalize vals _ C R D E = v
  pointwise []
  refine congrArg v (congrArg₂ (fun a r => ix3 a r d) (Fin.ext ?_) (Fin.ext ?_))
  · show (a.val * 784 + r.val) / 784 = a.val
    omega
  · show (a.val * 784 + r.val) % 784 = r.val
    omega

theorem stats_total : stats (vals (shapeCast S4x784x576 P shapeCasts_S3136x576_S4x784x576) C R D E) = statsOf P C R D E := by
  have rows := vals_row P C R D E hD hE
  generalize vals _ C R D E = v at rows ⊢
  have sums (d : Fin 128) : ∑ a : Fin 4, ∑ r : Fin 784, v (ix3 a r d) = ∑ q : Fin 3136, valAt P C R D E q d :=
    (Finset.sum_congr rfl fun a _ => Finset.sum_congr rfl fun r _ => rows a r d).trans
      (Fin.sum_mul_add_fin 4 784 fun q => valAt P C R D E q d)
  have squares (d : Fin 128) : ∑ a : Fin 4, ∑ r : Fin 784, v (ix3 a r d) * v (ix3 a r d)
      = ∑ q : Fin 3136, valAt P C R D E q d * valAt P C R D E q d :=
    (Finset.sum_congr rfl fun a _ => Finset.sum_congr rfl fun r _ => congrArg₂ (· * ·) (rows a r d) (rows a r d)).trans
      (Fin.sum_mul_add_fin 4 784 fun q => valAt P C R D E q d * valAt P C R D E q d)
  funext i
  have e : i = ix2 (i 0) (i 1) := by
    funext b
    match b with
    | ⟨0, _⟩ => rfl
    | ⟨1, _⟩ => rfl
  refine (congrArg _ e).trans ((stats_at v (i 0) (i 1)).trans ?_)
  exact congrArg₂ (fun x y => if (i 0 : ℕ) = 0 then x else if (i 0 : ℕ) = 1 then y else 0) (sums (i 1)) (squares (i 1))

end
end Cert.ReferenceIdeal.Ref
end
end
-- ==== Proof.RefLine.lean ====
/- The reference's operations in order, in the groups that its text falls into, and what every group leaves. -/
module

public import proofs.«01_k».proof.Proof.RefModel
public import proofs.«01_k».proof.Proof.RefStats
public import Idealize.ShloMosaic.Lib.Claim
public import Idealize.ShloMosaic.Lib.StableHlo.RunRead
public import Idealize.ShloMosaic.Adequacy
public import Idealize.ShloMosaic.Init

@[expose] public section

set_option maxRecDepth 16384

noncomputable section

namespace Cert.ReferenceIdeal.Ref

open Cert.ReferenceIdeal Cert.ReferenceIdeal.Gen Idealize.ShloMosaic Idealize.ShloMosaic.TcCoe Idealize.SL.Sem

section
variable {F : FTy → Type} [FloatOps F]

/-- The distances of the rows to the centroids. -/
def dists : List (HloOp τ sig (Elt F)) :=
  [StableHlo.reshape main_arg0 main_v0 (rfl : (.f32 : EltTy) = .f32) shapeCasts_S3136x576_S4x784x576,
    StableHlo.unary main_v0 main_v1 (broadcastInDim S4x784x1x576 ![0, 1, 3] bcast_S4x784x576_S4x784x1x576_0_1_3 : (⟨S4x784x576, .f32⟩ : BufTy).Contents (Elt F) → (⟨S4x784x1x576, .f32⟩ : BufTy).Contents (Elt F)),
    StableHlo.unary main_arg1 main_v2 (broadcastInDim S1x1x512x576 ![2, 3] bcast_S512x576_S1x1x512x576_2_3 : (⟨S512x576, .f32⟩ : BufTy).Contents (Elt F) → (⟨S1x1x512x576, .f32⟩ : BufTy).Contents (Elt F)),
    StableHlo.unary main_v1 main_v3 (broadcastInDim S4x784x512x576 ![0, 1, 2, 3] bcast_S4x784x1x576_S4x784x512x576_0_1_2_3 : (⟨S4x784x1x576, .f32⟩ : BufTy).Contents (Elt F) → (⟨S4x784x512x576, .f32⟩ : BufTy).Contents (Elt F)),
    StableHlo.unary main_v2 main_v4 (broadcastInDim S4x784x512x576 ![0, 1, 2, 3] bcast_S1x1x512x576_S4x784x512x576_0_1_2_3 : (⟨S1x1x512x576, .f32⟩ : BufTy).Contents (Elt F) → (⟨S4x784x512x576, .f32⟩ : BufTy).Contents (Elt F)),
    StableHlo.binary main_v3 main_v4 main_v5 (subf : (⟨S4x784x512x576, .f32⟩ : BufTy).Contents (Elt F) → (⟨S4x784x512x576, .f32⟩ : BufTy).Contents (Elt F) → (⟨S4x784x512x576, .f32⟩ : BufTy).Contents (Elt F)),
    StableHlo.unary main_v5 main_v6 (Host.absf : (⟨S4x784x512x576, .f32⟩ : BufTy).Contents (Elt F) → (⟨S4x784x512x576, .f32⟩ : BufTy).Contents (Elt F)),
    StableHlo.nullary main_cst (constant S_ .f32 0x00000000#32),
    StableHlo.binary main_v6 main_cst main_v7 ((fun x v => Host.reduceAdd x v reducesTo_S4x784x512x576_S4x784x512_d3 h_S_) : (⟨S4x784x512x576, .f32⟩ : BufTy).Contents (Elt F) → (⟨S_, .f32⟩ : BufTy).Contents (Elt F) → (⟨S4x784x512, .f32⟩ : BufTy).Contents (Elt F))]

/-- The first indices as row numbers. -/
def starts : List (HloOp τ sig (Elt F)) :=
  [StableHlo.nullary main_c (constantI S_ 32 0#32),
    StableHlo.unary main_c main_v9 (broadcastInDim S4x784 ![] bcast_S_S4x784 : (⟨S_, .i32⟩ : BufTy).Contents (Elt F) → (⟨S4x784, .i32⟩ : BufTy).Contents (Elt F)),
    StableHlo.binary main_v8 main_v9 main_v10 (cmpi .slt : (⟨S4x784, .i32⟩ : BufTy).Contents (Elt F) → (⟨S4x784, .i32⟩ : BufTy).Contents (Elt F) → (⟨S4x784, .i1⟩ : BufTy).Contents (Elt F)),
    StableHlo.nullary main_c_0 (constantI S_ 32 512#32),
    StableHlo.unary main_c_0 main_v11 (broadcastInDim S4x784 ![] bcast_S_S4x784 : (⟨S_, .i32⟩ : BufTy).Contents (Elt F) → (⟨S4x784, .i32⟩ : BufTy).Contents (Elt F)),
    StableHlo.binary main_v8 main_v11 main_v12 (addi : (⟨S4x784, .i32⟩ : BufTy).Contents (Elt F) → (⟨S4x784, .i32⟩ : BufTy).Contents (Elt F) → (⟨S4x784, .i32⟩ : BufTy).Contents (Elt F)),
    StableHlo.ternary main_v10 main_v12 main_v8 main_v13 (select : (⟨S4x784, .i1⟩ : BufTy).Contents (Elt F) → (⟨S4x784, .i32⟩ : BufTy).Contents (Elt F) → (⟨S4x784, .i32⟩ : BufTy).Contents (Elt F) → (⟨S4x784, .i32⟩ : BufTy).Contents (Elt F)),
    StableHlo.unary main_v13 main_v14 (broadcastInDim S4x784x1 ![0, 1] bcast_S4x784_S4x784x1_0_1 : (⟨S4x784, .i32⟩ : BufTy).Contents (Elt F) → (⟨S4x784x1, .i32⟩ : BufTy).Contents (Elt F))]

/-- The residuals and their distances to the residual centroids. -/
def residuals : List (HloOp τ sig (Elt F)) :=
  [StableHlo.binary main_arg1 main_v14 main_v15 ((fun x i => Host.gather gather_S512x576_S4x784x1_S4x784x576_2_0_n_n_0_2_1576 x i) : (⟨S512x576, .f32⟩ : BufTy).Contents (Elt F) → (⟨S4x784x1, .i32⟩ : BufTy).Contents (Elt F) → (⟨S4x784x576, .f32⟩ : BufTy).Contents (Elt F)),
    StableHlo.binary main_v0 main_v15 main_v16 (subf : (⟨S4x784x576, .f32⟩ : BufTy).Contents (Elt F) → (⟨S4x784x576, .f32⟩ : BufTy).Contents (Elt F) → (⟨S4x784x576, .f32⟩ : BufTy).Contents (Elt F)),
    StableHlo.unary main_v16 main_v17 (broadcastInDim S4x784x1x576 ![0, 1, 3] bcast_S4x784x576_S4x784x1x576_0_1_3 : (⟨S4x784x576, .f32⟩ : BufTy).Contents (Elt F) → (⟨S4x784x1x576, .f32⟩ : BufTy).Contents (Elt F)),
    StableHlo.unary main_arg2 main_v18 (broadcastInDim S1x1x512x576 ![2, 3] bcast_S512x576_S1x1x512x576_2_3 : (⟨S512x576, .f32⟩ : BufTy).Contents (Elt F) → (⟨S1x1x512x576, .f32⟩ : BufTy).Contents (Elt F)),
    StableHlo.unary main_v17 main_v19 (broadcastInDim S4x784x512x576 ![0, 1, 2, 3] bcast_S4x784x1x576_S4x784x512x576_0_1_2_3 : (⟨S4x784x1x576, .f32⟩ : BufTy).Contents (Elt F) → (⟨S4x784x512x576, .f32⟩ : BufTy).Contents (Elt F)),
    StableHlo.unary main_v18 main_v20 (broadcastInDim S4x784x512x576 ![0, 1, 2, 3] bcast_S1x1x512x576_S4x784x512x576_0_1_2_3 : (⟨S1x1x512x576, .f32⟩ : BufTy).Contents (Elt F) → (⟨S4x784x512x576, .f32⟩ : BufTy).Contents (Elt F)),
    StableHlo.binary main_v19 main_v20 main_v21 (subf : (⟨S4x784x512x576, .f32⟩ : BufTy).Contents (Elt F) → (⟨S4x784x512x576, .f32⟩ : BufTy).Contents (Elt F) → (⟨S4x784x512x576, .f32⟩ : BufTy).Contents (Elt F)),
    StableHlo.unary main_v21 main_v22 (Host.absf : (⟨S4x784x512x576, .f32⟩ : BufTy).Contents (Elt F) → (⟨S4x784x512x576, .f32⟩ : BufTy).Contents (Elt F)),
    StableHlo.nullary main_cst_1 (constant S_ .f32 0x00000000#32),
    StableHlo.binary main_v22 main_cst_1 main_v23 ((fun x v => Host.reduceAdd x v reducesTo_S4x784x512x576_S4x784x512_d3 h_S_) : (⟨S4x784x512x576, .f32⟩ : BufTy).Contents (Elt F) → (⟨S_, .f32⟩ : BufTy).Contents (Elt F) → (⟨S4x784x512, .f32⟩ : BufTy).Contents (Elt F))]

/-- The output rows of the first indices. -/
def outs : List (HloOp τ sig (Elt F)) :=
  [StableHlo.nullary main_c_2 (constantI S_ 32 0#32),
    StableHlo.unary main_c_2 main_v25 (broadcastInDim S4x784 ![] bcast_S_S4x784 : (⟨S_, .i32⟩ : BufTy).Contents (Elt F) → (⟨S4x784, .i32⟩ : BufTy).Contents (Elt F)),
    StableHlo.binary main_v8 main_v25 main_v26 (cmpi .slt : (⟨S4x784, .i32⟩ : BufTy).Contents (Elt F) → (⟨S4x784, .i32⟩ : BufTy).Contents (Elt F) → (⟨S4x784, .i1⟩ : BufTy).Contents (Elt F)),
    StableHlo.nullary main_c_3 (constantI S_ 32 512#32),
    StableHlo.unary main_c_3 main_v27 (broadcastInDim S4x784 ![] bcast_S_S4x784 : (⟨S_, .i32⟩ : BufTy).Contents (Elt F) → (⟨S4x784, .i32⟩ : BufTy).Contents (Elt F)),
    StableHlo.binary main_v8 main_v27 main_v28 (addi : (⟨S4x784, .i32⟩ : BufTy).Contents (Elt F) → (⟨S4x784, .i32⟩ : BufTy).Contents (Elt F) → (⟨S4x784, .i32⟩ : BufTy).Contents (Elt F)),
    StableHlo.ternary main_v26 main_v28 main_v8 main_v29 (select : (⟨S4x784, .i1⟩ : BufTy).Contents (Elt F) → (⟨S4x784, .i32⟩ : BufTy).Contents (Elt F) → (⟨S4x784, .i32⟩ : BufTy).Contents (Elt F) → (⟨S4x784, .i32⟩ : BufTy).Contents (Elt F)),
    StableHlo.unary main_v29 main_v30 (broadcastInDim S4x784x1 ![0, 1] bcast_S4x784_S4x784x1_0_1 : (⟨S4x784, .i32⟩ : BufTy).Contents (Elt F) → (⟨S4x784x1, .i32⟩ : BufTy).Contents (Elt F)),
    StableHlo.binary main_arg3 main_v30 main_v31 ((fun x i => Host.gather gather_S512x128_S4x784x1_S4x784x128_2_0_n_n_0_2_1128 x i) : (⟨S512x128, .f32⟩ : BufTy).Contents (Elt F) → (⟨S4x784x1, .i32⟩ : BufTy).Contents (Elt F) → (⟨S4x784x128, .f32⟩ : BufTy).Contents (Elt F))]

/-- The output rows of the second indices, and the sum. -/
def rest : List (HloOp τ sig (Elt F)) :=
  [StableHlo.nullary main_c_4 (constantI S_ 32 0#32),
    StableHlo.unary main_c_4 main_v32 (broadcastInDim S4x784 ![] bcast_S_S4x784 : (⟨S_, .i32⟩ : BufTy).Contents (Elt F) → (⟨S4x784, .i32⟩ : BufTy).Contents (Elt F)),
    StableHlo.binary main_v24 main_v32 main_v33 (cmpi .slt : (⟨S4x784, .i32⟩ : BufTy).Contents (Elt F) → (⟨S4x784, .i32⟩ : BufTy).Contents (Elt F) → (⟨S4x784, .i1⟩ : BufTy).Contents (Elt F)),
    StableHlo.nullary main_c_5 (constantI S_ 32 512#32),
    StableHlo.unary main_c_5 main_v34 (broadcastInDim S4x784 ![] bcast_S_S4x784 : (⟨S_, .i32⟩ : BufTy).Contents (Elt F) → (⟨S4x784, .i32⟩ : BufTy).Contents (Elt F)),
    StableHlo.binary main_v24 main_v34 main_v35 (addi : (⟨S4x784, .i32⟩ : BufTy).Contents (Elt F) → (⟨S4x784, .i32⟩ : BufTy).Contents (Elt F) → (⟨S4x784, .i32⟩ : BufTy).Contents (Elt F)),
    StableHlo.ternary main_v33 main_v35 main_v24 main_v36 (select : (⟨S4x784, .i1⟩ : BufTy).Contents (Elt F) → (⟨S4x784, .i32⟩ : BufTy).Contents (Elt F) → (⟨S4x784, .i32⟩ : BufTy).Contents (Elt F) → (⟨S4x784, .i32⟩ : BufTy).Contents (Elt F)),
    StableHlo.unary main_v36 main_v37 (broadcastInDim S4x784x1 ![0, 1] bcast_S4x784_S4x784x1_0_1 : (⟨S4x784, .i32⟩ : BufTy).Contents (Elt F) → (⟨S4x784x1, .i32⟩ : BufTy).Contents (Elt F)),
    StableHlo.binary main_arg4 main_v37 main_v38 ((fun x i => Host.gather gather_S512x128_S4x784x1_S4x784x128_2_0_n_n_0_2_1128 x i) : (⟨S512x128, .f32⟩ : BufTy).Contents (Elt F) → (⟨S4x784x1, .i32⟩ : BufTy).Contents (Elt F) → (⟨S4x784x128, .f32⟩ : BufTy).Contents (Elt F)),
    StableHlo.binary main_v31 main_v38 main_v39 (addf : (⟨S4x784x128, .f32⟩ : BufTy).Contents (Elt F) → (⟨S4x784x128, .f32⟩ : BufTy).Contents (Elt F) → (⟨S4x784x128, .f32⟩ : BufTy).Contents (Elt F))]

/-- The sums, the sums of squares, and the rows stacked. -/
def ends : List (HloOp τ sig (Elt F)) :=
  [StableHlo.nullary main_cst_6 (constant S_ .f32 0x00000000#32),
    StableHlo.binary main_v39 main_cst_6 main_v40 ((fun x v => Host.reduceAdd x v reducesTo_S4x784x128_S128_d0_1 h_S_) : (⟨S4x784x128, .f32⟩ : BufTy).Contents (Elt F) → (⟨S_, .f32⟩ : BufTy).Contents (Elt F) → (⟨S128, .f32⟩ : BufTy).Contents (Elt F)),
    StableHlo.binary main_v39 main_v39 main_v41 (mulf : (⟨S4x784x128, .f32⟩ : BufTy).Contents (Elt F) → (⟨S4x784x128, .f32⟩ : BufTy).Contents (Elt F) → (⟨S4x784x128, .f32⟩ : BufTy).Contents (Elt F)),
    StableHlo.nullary main_cst_7 (constant S_ .f32 0x00000000#32),
    StableHlo.binary main_v41 main_cst_7 main_v42 ((fun x v => Host.reduceAdd x v reducesTo_S4x784x128_S128_d0_1 h_S_) : (⟨S4x784x128, .f32⟩ : BufTy).Contents (Elt F) → (⟨S_, .f32⟩ : BufTy).Contents (Elt F) → (⟨S128, .f32⟩ : BufTy).Contents (Elt F)),
    StableHlo.unary main_v40 main_v43 (broadcastInDim S1x128 ![1] bcast_S128_S1x128_1 : (⟨S128, .f32⟩ : BufTy).Contents (Elt F) → (⟨S1x128, .f32⟩ : BufTy).Contents (Elt F)),
    StableHlo.unary main_v42 main_v44 (broadcastInDim S1x128 ![1] bcast_S128_S1x128_1 : (⟨S128, .f32⟩ : BufTy).Contents (Elt F) → (⟨S1x128, .f32⟩ : BufTy).Contents (Elt F)),
    StableHlo.nullary main_cst_8 (constant S_ .f32 0x00000000#32),
    StableHlo.unary main_cst_8 main_v45 (broadcastInDim S6x128 ![] bcast_S_S6x128 : (⟨S_, .f32⟩ : BufTy).Contents (Elt F) → (⟨S6x128, .f32⟩ : BufTy).Contents (Elt F)),
    StableHlo.nary ![main_v43, main_v44, main_v45] main_v46 (fun u => (concatenate S8x128 0 [⟨S1x128, (u 0 : (⟨S1x128, .f32⟩ : BufTy).Contents (Elt F))⟩, ⟨S1x128, (u 1 : (⟨S1x128, .f32⟩ : BufTy).Contents (Elt F))⟩, ⟨S6x128, (u 2 : (⟨S6x128, .f32⟩ : BufTy).Contents (Elt F))⟩] concatenates_S1x128_S1x128_S6x128_S8x128_d0 : (⟨S8x128, .f32⟩ : BufTy).Contents (Elt F))),
    StableHlo.reshape main_v39 main_v47 (rfl : (.f32 : EltTy) = .f32) shapeCasts_S4x784x128_S3136x128]

/-- The index of the least distance. -/
def argmins (x : StableHlo.TRef sig ⟨S4x784x512, .f32⟩) (φ : fn_argmin.Bufs) : List (HloOp τ sig (Elt F)) :=
  [StableHlo.TRef.nullary φ.v0 (iotaInDim S4x784x512 32 2),
    StableHlo.TRef.nullary φ.cst (constant S_ .f32 0x7F800000#32),
    StableHlo.TRef.nullary φ.c (constantI S_ 32 0#32),
    StableHlo.TRef.quaternary x φ.v0 φ.cst φ.c φ.v1_0 (fun x y u v j => (Host.argReduce reducer_argmin_f32_i32 x y u v reducesTo_S4x784x512_S4x784_d2 h_S_ j).1),
    StableHlo.TRef.quaternary x φ.v0 φ.cst φ.c φ.v1_1 (fun x y u v j => (Host.argReduce reducer_argmin_f32_i32 x y u v reducesTo_S4x784x512_S4x784_d2 h_S_ j).2)]

end

variable (V : Valuation τ sig (Elt Ideal))

theorem dists_v0 : StableHlo.after dists V (Proc.devRef .tc main_v0) = shapeCast S4x784x576 (V (Proc.devRef .tc main_arg0)) shapeCasts_S3136x576_S4x784x576 := by
  unfold dists
  after_results_simp
  rfl

theorem dists_v7 : StableHlo.after dists V (Proc.devRef .tc main_v7) = dist (shapeCast S4x784x576 (V (Proc.devRef .tc main_arg0)) shapeCasts_S3136x576_S4x784x576) (V (Proc.devRef .tc main_arg1)) := by
  unfold dists
  after_results_simp
  rfl

theorem first_v8 : StableHlo.after (argmins (.of main_v7) main_call0) V (Proc.devRef .tc main_v8) = nearest (V (Proc.devRef .tc main_v7)) := by
  unfold argmins
  after_results_simp
  rfl

theorem starts_v14 : StableHlo.after starts V (Proc.devRef .tc main_v14) = start (V (Proc.devRef .tc main_v8)) := by
  unfold starts
  after_results_simp
  rfl

theorem residuals_v23 : StableHlo.after residuals V (Proc.devRef .tc main_v23) = dist (subf (V (Proc.devRef .tc main_v0)) (Host.gather gather_S512x576_S4x784x1_S4x784x576_2_0_n_n_0_2_1576 (V (Proc.devRef .tc main_arg1)) (V (Proc.devRef .tc main_v14)))) (V (Proc.devRef .tc main_arg2)) := by
  unfold residuals
  after_results_simp
  rfl

theorem second_v24 : StableHlo.after (argmins (.of main_v23) main_call1) V (Proc.devRef .tc main_v24) = nearest (V (Proc.devRef .tc main_v23)) := by
  unfold argmins
  after_results_simp
  rfl

theorem outs_v31 : StableHlo.after outs V (Proc.devRef .tc main_v31) = outsOf (V (Proc.devRef .tc main_arg3)) (V (Proc.devRef .tc main_v8)) := by
  unfold outs
  after_results_simp
  rfl

theorem rest_v39 : StableHlo.after rest V (Proc.devRef .tc main_v39) = addf (V (Proc.devRef .tc main_v31)) (outsOf (V (Proc.devRef .tc main_arg4)) (V (Proc.devRef .tc main_v24))) := by
  unfold rest
  after_results_simp
  rfl

theorem ends_v46 : StableHlo.after ends V (Proc.devRef .tc main_v46) = stats (V (Proc.devRef .tc main_v39)) := by
  unfold ends
  after_results_simp
  rfl

theorem ends_v47 : StableHlo.after ends V (Proc.devRef .tc main_v47) = shapeCast S3136x128 (V (Proc.devRef .tc main_v39)) shapeCasts_S4x784x128_S3136x128 := by
  unfold ends
  after_results_simp
  rfl

end Cert.ReferenceIdeal.Ref
end
end
-- ==== Proof.RefRun.lean ====
/- The reference's run: what its two results hold at the end, and that its arguments and its semaphores are as they were. -/
module

public import proofs.«01_k».proof.Proof.RefLine

@[expose] public section

set_option maxRecDepth 16384

noncomputable section

namespace Cert.ReferenceIdeal.Ref

open Cert.ReferenceIdeal Cert.ReferenceIdeal.Gen Idealize.ShloMosaic Idealize.ShloMosaic.TcCoe Idealize.SL.Sem

section
variable (V : Valuation τ sig (Elt Ideal))

/-! Every group leaves the buffers that it does not write. -/

theorem dists_kept (b : Ref sig .tc) (h : b ∉ ([main_v0, main_v1, main_v2, main_v3, main_v4, main_v5, main_v6, main_cst, main_v7] : List (Ref sig .tc))) :
    StableHlo.after dists V (Proc.devRef .tc b) = V (Proc.devRef .tc b) :=
  StableHlo.after_unwritten [main_v0, main_v1, main_v2, main_v3, main_v4, main_v5, main_v6, main_cst, main_v7] rfl h V

theorem first_kept (b : Ref sig .tc) (h : b ∉ ([main_call0_v0, main_call0_cst, main_call0_c, main_call0_v1_0, main_v8] : List (Ref sig .tc))) :
    StableHlo.after (argmins (F := Ideal) (.of main_v7) main_call0) V (Proc.devRef .tc b) = V (Proc.devRef .tc b) :=
  StableHlo.after_unwritten [main_call0_v0, main_call0_cst, main_call0_c, main_call0_v1_0, main_v8] rfl h V

theorem starts_kept (b : Ref sig .tc) (h : b ∉ ([main_c, main_v9, main_v10, main_c_0, main_v11, main_v12, main_v13, main_v14] : List (Ref sig .tc))) :
    StableHlo.after starts V (Proc.devRef .tc b) = V (Proc.devRef .tc b) :=
  StableHlo.after_unwritten [main_c, main_v9, main_v10, main_c_0, main_v11, main_v12, main_v13, main_v14] rfl h V

theorem residuals_kept (b : Ref sig .tc) (h : b ∉ ([main_v15, main_v16, main_v17, main_v18, main_v19, main_v20, main_v21, main_v22, main_cst_1, main_v23] : List (Ref sig .tc))) :
    StableHlo.after residuals V (Proc.devRef .tc b) = V (Proc.devRef .tc b) :=
  StableHlo.after_unwritten [main_v15, main_v16, main_v17, main_v18, main_v19, main_v20, main_v21, main_v22, main_cst_1, main_v23] rfl h V

theorem second_kept (b : Ref sig .tc) (h : b ∉ ([main_call1_v0, main_call1_cst, main_call1_c, main_call1_v1_0, main_v24] : List (Ref sig .tc))) :
    StableHlo.after (argmins (F := Ideal) (.of main_v23) main_call1) V (Proc.devRef .tc b) = V (Proc.devRef .tc b) :=
  StableHlo.after_unwritten [main_call1_v0, main_call1_cst, main_call1_c, main_call1_v1_0, main_v24] rfl h V

theorem outs_kept (b : Ref sig .tc) (h : b ∉ ([main_c_2, main_v25, main_v26, main_c_3, main_v27, main_v28, main_v29, main_v30, main_v31] : List (Ref sig .tc))) :
    StableHlo.after outs V (Proc.devRef .tc b) = V (Proc.devRef .tc b) :=
  StableHlo.after_unwritten [main_c_2, main_v25, main_v26, main_c_3, main_v27, main_v28, main_v29, main_v30, main_v31] rfl h V

theorem rest_kept (b : Ref sig .tc) (h : b ∉ ([main_c_4, main_v32, main_v33, main_c_5, main_v34, main_v35, main_v36, main_v37, main_v38, main_v39] : List (Ref sig .tc))) :
    StableHlo.after rest V (Proc.devRef .tc b) = V (Proc.devRef .tc b) :=
  StableHlo.after_unwritten [main_c_4, main_v32, main_v33, main_c_5, main_v34, main_v35, main_v36, main_v37, main_v38, main_v39] rfl h V

theorem ends_kept (b : Ref sig .tc) (h : b ∉ ([main_cst_6, main_v40, main_v41, main_cst_7, main_v42, main_v43, main_v44, main_cst_8, main_v45, main_v46, main_v47] : List (Ref sig .tc))) :
    StableHlo.after ends V (Proc.devRef .tc b) = V (Proc.devRef .tc b) :=
  StableHlo.after_unwritten [main_cst_6, main_v40, main_v41, main_cst_7, main_v42, main_v43, main_v44, main_cst_8, main_v45, main_v46, main_v47] rfl h V

/-- All the operations, in order. -/
def line : List (HloOp τ sig (Elt Ideal)) :=
  dists ++ (argmins (.of main_v7) main_call0 ++ (starts ++ (residuals ++ (argmins (.of main_v23) main_call1 ++ (outs ++ (rest ++ ends))))))

/-- An argument is left alone by all of them. -/
theorem line_kept (b : Ref sig .tc) (h : b ∈ ([main_arg0, main_arg1, main_arg2, main_arg3, main_arg4] : List (Ref sig .tc))) :
    StableHlo.after line V (Proc.devRef .tc b) = V (Proc.devRef .tc b) := by
  unfold line
  simp only [StableHlo.after_append]
  have step {l : List (HloOp τ sig (Elt Ideal))} {V W : Valuation τ sig (Elt Ideal)} {b : Ref sig .tc}
      (h : StableHlo.after l V (Proc.devRef .tc b) = V (Proc.devRef .tc b)) (h' : V (Proc.devRef .tc b) = W (Proc.devRef .tc b)) :
      StableHlo.after l V (Proc.devRef .tc b) = W (Proc.devRef .tc b) := h.trans h'
  fin_cases h <;>
    exact step (ends_kept _ _ (by decide)) (step (rest_kept _ _ (by decide)) (step (outs_kept _ _ (by decide)) (step (second_kept _ _ (by decide))
      (step (residuals_kept _ _ (by decide)) (step (starts_kept _ _ (by decide)) (step (first_kept _ _ (by decide)) (dists_kept _ _ (by decide))))))))

/-- The output rows, of the arguments. -/
def rowsAt : FVec Ideal S4x784x128 .f32 :=
  vals (shapeCast S4x784x576 (V (Proc.devRef .tc main_arg0)) shapeCasts_S3136x576_S4x784x576) (V (Proc.devRef .tc main_arg1))
    (V (Proc.devRef .tc main_arg2)) (V (Proc.devRef .tc main_arg3)) (V (Proc.devRef .tc main_arg4))

/-- What the sum of the two output rows is after every group but the last. -/
theorem line_v39 : StableHlo.after rest (StableHlo.after outs (StableHlo.after (argmins (.of main_v23) main_call1) (StableHlo.after residuals
      (StableHlo.after starts (StableHlo.after (argmins (.of main_v7) main_call0) (StableHlo.after dists V)))))) (Proc.devRef .tc main_v39)
    = rowsAt V := by
  rw [rest_v39]
  rw [outs_v31, outs_kept _ main_arg4 (by decide), outs_kept _ main_v24 (by decide), second_v24, second_kept _ main_arg3 (by decide),
    second_kept _ main_arg4 (by decide), second_kept _ main_v8 (by decide), residuals_v23, residuals_kept _ main_arg3 (by decide),
    residuals_kept _ main_arg4 (by decide), residuals_kept _ main_v8 (by decide), starts_v14, starts_kept _ main_v0 (by decide),
    starts_kept _ main_arg1 (by decide), starts_kept _ main_arg2 (by decide), starts_kept _ main_arg3 (by decide),
    starts_kept _ main_arg4 (by decide), starts_kept _ main_v8 (by decide), first_v8, first_kept _ main_v0 (by decide),
    first_kept _ main_arg1 (by decide), first_kept _ main_arg2 (by decide), first_kept _ main_arg3 (by decide),
    first_kept _ main_arg4 (by decide), dists_v0, dists_v7, dists_kept _ main_arg1 (by decide), dists_kept _ main_arg2 (by decide),
    dists_kept _ main_arg3 (by decide), dists_kept _ main_arg4 (by decide)]
  rfl

theorem line_v46 : StableHlo.after line V (Proc.devRef .tc main_v46) = stats (rowsAt V) := by
  unfold line
  simp only [StableHlo.after_append]
  rw [ends_v46, line_v39]

theorem line_v47 : StableHlo.after line V (Proc.devRef .tc main_v47) = shapeCast S3136x128 (rowsAt V) shapeCasts_S4x784x128_S3136x128 := by
  unfold line
  simp only [StableHlo.after_append]
  rw [ends_v47, line_v39]

end

variable (m : (ℓ : Loc nD τ sig) → Buf (Elt Ideal) ℓ) (ρ : Dev nD → PrngReg)

theorem main_line (d : Dev nD) : StableHlo.IsSeq (main (F := Ideal) d) line := by
  hlo_seq

set_option maxHeartbeats 1600000 in
/-- The run. -/
theorem run : θ_run defs (onTc (τ := τ) (main (F := Ideal))) ⟨m, fun _ => 0, ρ⟩ fun r => ∀ (d : Dev nD) (b : Ref sig .tc),
    r.2.mem ((d.tc : Thread nD τ).loc b) = StableHlo.after line (StableHlo.launchContents m d) (Proc.devRef .tc b) :=
  StableHlo.run_hlo defs main main_line (by decide) (by decide)
    (by unfold line dists argmins starts residuals outs rest ends; simp)
    (by
      unfold line dists argmins starts residuals outs rest ends
      intro _ h
      (repeat (cases h with | head => rfl | tail _ h => ?_))
      exact nomatch h) m ρ

end Cert.ReferenceIdeal.Ref
end
end
-- ==== Proof.TablesFinite.lean ====
/- The precondition, read entry by entry: every entry of the two output tables is a finite number. -/
module

public import proofs.«01_k».proof.Pre_tables_finite
public import Idealize.ShloMosaic.Lib.ReduceAll
public import Idealize.ShloMosaic.Lib.Pointwise
public import Idealize.ShloMosaic.Lib.Pipeline.ValueKit

@[expose] public section

set_option maxRecDepth 16384

noncomputable section

namespace Cert.Pre_tables_finite

open Idealize.ShloMosaic

/-- The shape relations that the precondition's operations take. -/
theorem facts : Facts where
  bcast_S_S512x128 := by decide
  reducesTo_S512x128_S_d0_1 := by decide
  h_S_ := by decide

/-- A number whose absolute value is below infinity is finite. -/
theorem finite_of_lt (x : EReal) (h : max x (-x) < ⊤) : x ≠ ⊤ ∧ x ≠ ⊥ := by
  constructor
  · rintro rfl
    simp at h
  · rintro rfl
    simp at h

/-- A comparison with the bits of infinity that holds, as a bound. -/
theorem finite_of_bit (x : EReal) (h : Ideal.cmp .olt (max x (-x)) (Ideal.ofBits .f32 0x7F800000#32) = 1#1) : x ≠ ⊤ ∧ x ≠ ⊥ := by
  have top : Ideal.ofBits .f32 0x7F800000#32 = (⊤ : EReal) := by simp [Ideal.ofBits, Ideal.ieee]
  rw [top] at h
  refine finite_of_lt x ?_
  by_contra n
  simp [Ideal.cmp, n] at h

/-- Under the precondition every entry of both tables is finite. -/
theorem entries [Facts] (P : FVec Ideal S3136x576 .f32) (C R : FVec Ideal S512x576 .f32) (D E : FVec Ideal S512x128 .f32)
    (h : fn P C R D E = fun _ => 1#1) (i : S512x128.Idx) : (D i ≠ ⊤ ∧ D i ≠ ⊥) ∧ (E i ≠ ⊤ ∧ E i ≠ ⊥) := by
  have at0 := congrFun h (fun a => a.elim0)
  obtain ⟨hd, he⟩ := IntOp.andi_eq_one.mp at0
  have hd := Host.reduce_andi_all _ _ _ _ _ hd i
  have he := Host.reduce_andi_all _ _ _ _ _ he i
  exact ⟨finite_of_bit (D i) hd, finite_of_bit (E i) he⟩

end Cert.Pre_tables_finite
end
end
-- ==== Proof.StatsOfRows.lean ====
/- What the second precondition says of the entries: the rows and the factor are finite, and the statistics are the rows' column sums
   and sums of squares. -/
module

public import proofs.«01_k».proof.Pre_stats_of_rows
public import proofs.«01_k».proof.Proof.TablesFinite
public import proofs.«01_k».proof.Proof.RefStats

@[expose] public section

set_option maxRecDepth 16384

noncomputable section

namespace Cert.Pre_stats_of_rows

open Idealize.ShloMosaic Cert.Vq

/-- The shape relations that the precondition's operations take. -/
theorem facts : Facts where
  bcast_S_S4x784x128 := by decide
  reducesTo_S4x784x128_S_d0_1_2 := by decide
  h_S_ := by decide
  bcast_S_S128 := by decide
  reducesTo_S128_S_d0 := by decide
  slices_S8x128_S1x128_0_0 := by decide
  shapeCasts_S1x128_S128 := by decide
  reducesTo_S4x784x128_S128_d0_1 := by decide
  slices_S8x128_S1x128_1_0 := by decide

/-- A comparison for equality that holds. -/
theorem eq_of_bit (x y : EReal) (h : Ideal.cmp .oeq x y = 1#1) : x = y := by
  by_contra n
  simp [Ideal.cmp, n] at h

variable [Facts] (X : FVec Ideal S4x784x128 .f32) (T : FVec Ideal S8x128 .f32) (G B : FVec Ideal S128 .f32)

theorem parts (h : fn X T G B = fun _ => 1#1) :
    (∀ i, X i ≠ ⊤ ∧ X i ≠ ⊥) ∧ (∀ i, G i ≠ ⊤ ∧ G i ≠ ⊥)
      ∧ (∀ d : Fin 128, T (ix2 0 d) = ∑ a : Fin 4, ∑ r : Fin 784, X (ix3 a r d))
      ∧ ∀ d : Fin 128, T (ix2 1 d) = ∑ a : Fin 4, ∑ r : Fin 784, X (ix3 a r d) * X (ix3 a r d) := by
  have at0 := congrFun h (fun a => a.elim0)
  obtain ⟨hrest, hsq⟩ := IntOp.andi_eq_one.mp at0
  obtain ⟨hfin, hsum⟩ := IntOp.andi_eq_one.mp hrest
  obtain ⟨hX, hG⟩ := IntOp.andi_eq_one.mp hfin
  refine ⟨fun i => Pre_tables_finite.finite_of_bit _ (Host.reduce_andi_all _ _ _ _ _ hX i),
    fun i => Pre_tables_finite.finite_of_bit _ (Host.reduce_andi_all _ _ _ _ _ hG i), fun d => ?_, fun d => ?_⟩
  · have e := eq_of_bit _ _ (Host.reduce_andi_all _ _ _ _ _ hsum (ix1 d))
    refine Eq.trans ?_ (e.trans (Cert.ReferenceIdeal.Ref.outer_sum X d))
    pointwise []
  · have e := eq_of_bit _ _ (Host.reduce_andi_all _ _ _ _ _ hsq (ix1 d))
    refine Eq.trans ?_ (e.trans (Cert.ReferenceIdeal.Ref.outer_sum (mulf X X) d))
    pointwise []

end Cert.Pre_stats_of_rows
end
end
-- ==== Proof.Norm.lean ====
/- Batch normalisation of one entry, over the extended reals: multiplying by a scale and adding a shift, both computed from the sum and
   the sum of squares, is the same as centring, dividing by the deviation, and then scaling and shifting. -/
module

public import Idealize.ShloMosaic.Lib.Pipeline.ValueKit
public import Idealize.ShloMosaic.PureOps.Ideal

@[expose] public section

noncomputable section

namespace Cert.Bn

open Idealize.ShloMosaic

/-- The number of rows, 3136, as its float. -/
def rows : EReal := Ideal.ofBits .f32 0x45440000#32

/-- The small number added to the variance, as its float. -/
def eps : EReal := Ideal.ofBits .f32 0x3727C5AC#32

/-- The entry `v` normalised by a scale and a shift, from its column's sum and sum of squares. -/
def scaled (v s ss g b : EReal) : EReal :=
  v * Ideal.div g (Ideal.sqrt (Ideal.div ss rows - Ideal.div s rows * Ideal.div s rows + eps))
    + (b - Ideal.div s rows * Ideal.div g (Ideal.sqrt (Ideal.div ss rows - Ideal.div s rows * Ideal.div s rows + eps)))

/-- The entry `v` centred and divided by the deviation, from its column's sum and its sum of squared deviations. -/
def centred (v s q g b : EReal) : EReal :=
  Ideal.div (v - Ideal.div s rows) (Ideal.sqrt (Ideal.div q rows + eps)) * g + b

theorem rows_eq : rows = ((3136 : ℝ) : EReal) := by
  simp [rows, Ideal.ofBits, Ideal.ieee]
  rw [← EReal.coe_mul]
  norm_num

theorem eps_eq : ∃ e : ℝ, 0 < e ∧ eps = (e : EReal) := by
  refine ⟨(1 + 2606508 / 8388608) / 131072, by norm_num, ?_⟩
  simp [eps, Ideal.ofBits, Ideal.ieee]
  rw [← EReal.coe_mul]
  norm_num

theorem coe_div (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

theorem coe_sum {ι : Type*} (S : Finset ι) (f : ι → ℝ) : ((∑ i ∈ S, f i : ℝ) : EReal) = ∑ i ∈ S, (f i : EReal) :=
  map_sum (⟨⟨Real.toEReal, rfl⟩, EReal.coe_add⟩ : ℝ →+ EReal) f S

/-- The mean of the squares less the square of the mean is the mean squared deviation. -/
theorem variance (f : Fin 4 → Fin 784 → ℝ) :
    (∑ a, ∑ r, f a r * f a r) / 3136 - (∑ a, ∑ r, f a r) / 3136 * ((∑ a, ∑ r, f a r) / 3136)
      = (∑ a, ∑ r, (f a r - (∑ a, ∑ r, f a r) / 3136) * (f a r - (∑ a, ∑ r, f a r) / 3136)) / 3136 := by
  generalize hs : (∑ a, ∑ r, f a r) = s
  have expand : (∑ a, ∑ r, (f a r - s / 3136) * (f a r - s / 3136))
      = (∑ a, ∑ r, f a r * f a r) - 2 * (s / 3136) * s + 3136 * (s / 3136 * (s / 3136)) := by
    have each (a : Fin 4) (r : Fin 784) : (f a r - s / 3136) * (f a r - s / 3136)
        = f a r * f a r - 2 * (s / 3136) * f a r + s / 3136 * (s / 3136) := by ring
    simp only [each, Finset.sum_add_distrib, Finset.sum_sub_distrib, ← Finset.mul_sum, hs, Finset.sum_const,
      Finset.card_univ, Fintype.card_fin, nsmul_eq_mul]
    push_cast
    ring
  rw [expand]
  ring

/-- The two ways of normalising agree on finite rows and a finite factor; the addend may be infinite. -/
theorem scaled_eq_centred (f : Fin 4 → Fin 784 → EReal) (g b s ss : EReal) (hf : ∀ a r, f a r ≠ ⊤ ∧ f a r ≠ ⊥) (hg : g ≠ ⊤ ∧ g ≠ ⊥)
    (hs : s = ∑ a, ∑ r, f a r) (hss : ss = ∑ a, ∑ r, f a r * f a r) (a : Fin 4) (r : Fin 784) :
    scaled (f a r) s ss g b = centred (f a r) s
      (∑ a, ∑ r, (f a r - Ideal.div s rows) * (f a r - Ideal.div s rows)) g b := by
  obtain ⟨x, rfl⟩ : ∃ x : Fin 4 → Fin 784 → ℝ, f = fun a r => (x a r : EReal) :=
    ⟨fun a r => (f a r).toReal, by funext a r; exact (EReal.coe_toReal (hf a r).1 (hf a r).2).symm⟩
  lift g to ℝ using hg
  obtain ⟨e, he, heps⟩ := eps_eq
  have sum : s = ((∑ a, ∑ r, x a r : ℝ) : EReal) := by simp only [hs, coe_sum]
  have squares : ss = ((∑ a, ∑ r, x a r * x a r : ℝ) : EReal) := by simp only [hss, coe_sum, EReal.coe_mul]
  have mean : Ideal.div s rows = (((∑ a, ∑ r, x a r) / 3136 : ℝ) : EReal) := by
    rw [sum, rows_eq, coe_div _ _ (by norm_num)]
  have var := variance x
  generalize (∑ a, ∑ r, x a r) / 3136 = μ at mean var
  have dev : (∑ a, ∑ r, ((x a r : EReal) - Ideal.div s rows) * ((x a r : EReal) - Ideal.div s rows))
      = ((∑ a, ∑ r, (x a r - μ) * (x a r - μ) : ℝ) : EReal) := by
    simp only [mean, coe_sum, EReal.coe_mul, EReal.coe_sub]
  have nonneg : 0 ≤ (∑ a, ∑ r, (x a r - μ) * (x a r - μ)) / 3136 :=
    div_nonneg (Finset.sum_nonneg fun a _ => Finset.sum_nonneg fun r _ => mul_self_nonneg _) (by norm_num)
  unfold scaled centred
  rw [dev, mean, squares, rows_eq, coe_div _ _ (by norm_num), coe_div _ _ (by norm_num), heps, ← EReal.coe_mul, ← EReal.coe_sub,
    ← EReal.coe_add, ← EReal.coe_add, var]
  generalize (∑ a, ∑ r, (x a r - μ) * (x a r - μ)) / 3136 = q at nonneg
  have pos : 0 < q + e := by linarith
  have root : Ideal.sqrt ((q + e : ℝ) : EReal) = ((Real.sqrt (q + e) : ℝ) : EReal) := by
    rw [Ideal.sqrt_coe, if_neg (not_lt.mpr pos.le)]
  have off : Real.sqrt (q + e) ≠ 0 := (Real.sqrt_pos.mpr pos).ne'
  rw [root, coe_div _ _ off, ← EReal.coe_sub, coe_div _ _ off, ← EReal.coe_mul, ← EReal.coe_mul, ← EReal.coe_mul]
  induction b with
  | bot => simp
  | top => rw [EReal.top_sub_coe, EReal.coe_add_top, EReal.coe_add_top]
  | coe b =>
    rw [← EReal.coe_sub, ← EReal.coe_add, ← EReal.coe_add]
    congr 1
    ring

end Cert.Bn
end
end
-- ==== Proof.BnGrid.lean ====
/- The normalising kernel: what its result holds at the end, entry by entry, over the extended reals. -/
module

public import proofs.«01_k».proof.Proof.Gen.Kernel2Ideal.Value
public import proofs.«01_k».proof.Proof.Norm

@[expose] public section

set_option maxRecDepth 16384

noncomputable section

namespace Cert.Kernel2Ideal.Bn

open Cert.Kernel2Ideal Cert.Kernel2Ideal.Gen Idealize.ShloMosaic Idealize.ShloMosaic.TcCoe Cert.Bn

/-- The normalised rows, transposed: entry `d`, `r` of group `a` from row `r` of group `a` and the column's statistics. -/
def normalised (X : FVec Ideal S4x784x128 .f32) (T : FVec Ideal S8x128 .f32) (G B : FVec Ideal S128 .f32) : FVec Ideal S4x128x784 .f32 :=
  fun i => scaled (X (ix3 (i 0) (i 2) (i 1))) (T (ix2 0 (i 1))) (T (ix2 1 (i 1))) (G (ix1 (i 1))) (B (ix1 (i 1)))

/-- What one point leaves, from its blocks. -/
theorem left_at (x0 : Vec Ideal S1x784x128 .f32) (x1 : Vec Ideal S8x128 .f32) (x2 x3 : Vec Ideal S1x128 .f32) (d : Fin 128) (r : Fin 784) :
    out0_4 x0 x1 x2 x3 (ix3 0 d r)
      = scaled (x0 (ix3 0 r d)) (x1 (ix2 0 d)) (x1 (ix2 1 d)) (x2 (ix2 0 d)) (x3 (ix2 0 d)) := by
  unfold out0_4
  rw [Value.canon4_eq]
  pointwise [scaled, rows, eps]

variable (m : (ℓ : Loc nD τ sig) → Buf (Elt Ideal) ℓ) (c : Dev nD)

/-- Which block each window holds at point `t`. -/
theorem idx : ∀ t : Fin cfg0.N, win0_0.index t = ![t.val, 0, 0] ∧ win0_1.index t = ![0, 0] ∧ win0_2.index t = ![0, 0]
    ∧ win0_3.index t = ![0, 0] ∧ win0_4.index t = ![t.val, 0, 0] :=
  (by decide +kernel : ∀ t : Fin grid0.N, _)

theorem entry2 : V m c main_v0 = shapeCast S1x128 (m ((c : Thread nD τ).loc main_arg2)) shapeCasts_S128_S1x128 := by
  unfold V hostOps0; after_results_simp; rfl
theorem entry3 : V m c main_v1 = shapeCast S1x128 (m ((c : Thread nD τ).loc main_arg3)) shapeCasts_S128_S1x128 := by
  unfold V hostOps0; after_results_simp; rfl

/-- The group that point `t` normalises. -/
def group (t : Fin cfg0.N) : Fin 4 := ⟨t.val, lt_of_lt_of_eq t.isLt (show cfg0.N = 4 from N_0)⟩

theorem iblk0_at (t : Fin cfg0.N) (r : Fin 784) (d : Fin 128) :
    (iblk m c 0 t : Vec Ideal S1x784x128 .f32) (ix3 0 r d) = m ((c : Thread nD τ).loc main_arg0) (ix3 (group t) r d) := by
  rw [← V_main_arg0 m c]
  blk_ext! [iblk, idx t, group]
theorem iblk1 (t : Fin cfg0.N) : iblk m c 1 t = m ((c : Thread nD τ).loc main_arg1) := by
  rw [← V_main_arg1 m c]
  blk_ext! [iblk, idx t]
theorem iblk2_at (t : Fin cfg0.N) (d : Fin 128) :
    (iblk m c 2 t : Vec Ideal S1x128 .f32) (ix2 0 d) = m ((c : Thread nD τ).loc main_arg2) (ix1 d) := by
  have e : iblk m c 2 t = V m c main_v0 := by blk_ext! [iblk, idx t]
  rw [e, entry2]
  pointwise []
theorem iblk3_at (t : Fin cfg0.N) (d : Fin 128) :
    (iblk m c 3 t : Vec Ideal S1x128 .f32) (ix2 0 d) = m ((c : Thread nD τ).loc main_arg3) (ix1 d) := by
  have e : iblk m c 3 t = V m c main_v1 := by blk_ext! [iblk, idx t]
  rw [e, entry3]
  pointwise []

/-- The result ends as the normalised rows. -/
theorem out_end : (dats m 0 c).arrAt 4 cfg0.N
    = normalised (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after0_4]
  obtain ⟨d, r, rfl⟩ : ∃ (d : Fin 128) (r : Fin 784), y = (ix3 0 d r : S1x128x784.Idx) :=
    ⟨y 1, y 2, by funext a; match a with
      | ⟨0, _⟩ => exact Fin.ext (Nat.lt_one_iff.mp (y 0).isLt)
      | ⟨1, _⟩ => rfl
      | ⟨2, _⟩ => rfl⟩
  have e : (win0_4.blk t).view.emb (ix3 0 d r : S1x128x784.Idx) = (ix3 (group t) d r : S4x128x784.Idx) := by
    blk_ext! [idx t, group]
  rw [e, left_at, iblk0_at, iblk1, iblk2_at, iblk3_at]
  rfl

end Cert.Kernel2Ideal.Bn
end
end
-- ==== Proof.BnRef.lean ====
/- The plain batch normalisation, read at an entry over the extended reals. -/
module

public import proofs.«01_k».proof.Proof.Gen.Reference2Ideal.Run
public import proofs.«01_k».proof.Proof.Norm

@[expose] public section

set_option maxRecDepth 16384

noncomputable section

namespace Cert.Reference2Ideal.Bn

open Cert.Reference2Ideal Cert.Reference2Ideal.Gen Idealize.ShloMosaic Cert.Bn

open Finset in
/-- A sum over the first and the last axis, at an entry. -/
theorem outer_sum (v : FVec Ideal S4x128x784 .f32) (d : Fin 128) :
    Host.reduceAdd v (constant S_ .f32 0x00000000#32) reducesTo_S4x128x784_S128_d0_2 h_S_ (ix1 d)
      = ∑ a : Fin 4, ∑ r : Fin 784, v (ix3 a d r) := by
  have zero : constant (F := Ideal) S_ .f32 0x00000000#32 (Shape.Idx.first h_S_) = (0 : EReal) := by
    simp [constant, Ideal.ofBits, Ideal.ieee]
  have drop (a : Fin 4) (e : Fin 128) (r : Fin 784) : reducesTo_S4x128x784_S128_d0_2.drop (ix3 a e r) = ix1 e := by
    funext b
    apply Fin.ext
    match b with
    | ⟨0, _⟩ => rfl
  have eqv (e : Fin 128) : (ix1 e : S128.Idx) = ix1 d ↔ e = d := ⟨fun h => congrFun h 0, fun h => h ▸ rfl⟩
  show Ideal.hostReduceAdd reducesTo_S4x128x784_S128_d0_2 v _ (ix1 d) = _
  rw [Ideal.hostReduceAdd, zero, zero_add, Finset.sum_filter, sum_idx3]
  refine Finset.sum_congr rfl fun a _ => ?_
  rw [Finset.sum_comm]
  refine Finset.sum_congr rfl fun r _ => ?_
  simp only [drop, eqv]
  rw [Finset.sum_ite_eq' Finset.univ d, if_pos (Finset.mem_univ d)]

/-- The mean of every column, as an array with one entry along the other axes. -/
def means (v : FVec Ideal S4x128x784 .f32) : FVec Ideal S1x128x1 .f32 :=
  Host.divf (broadcastInDim S1x128x1 ![1] bcast_S128_S1x128x1_1
      (Host.reduceAdd v (constant S_ .f32 0x00000000#32) reducesTo_S4x128x784_S128_d0_2 h_S_))
    (broadcastInDim S1x128x1 ![] bcast_S_S1x128x1 (constant S_ .f32 0x45440000#32))

/-- The entries less their column's mean. -/
def deviations (v : FVec Ideal S4x128x784 .f32) : FVec Ideal S4x128x784 .f32 :=
  subf v (broadcastInDim S4x128x784 ![0, 1, 2] bcast_S1x128x1_S4x128x784_0_1_2 (means v))

/-- The divisor of the variance: the number of rows less zero. -/
def count : FVec Ideal S_ .f32 := subf (constant S_ .f32 0x45440000#32) (sitofp .f32 (constantI S_ 32 0#32))

/-- The variance of every column, guarded by a test of its divisor. -/
def variances (v : FVec Ideal S4x128x784 .f32) : FVec Ideal S1x128x1 .f32 :=
  select (broadcastInDim S1x128x1 ![] bcast_S_S1x128x1 (cmpf .ogt count (constant S_ .f32 0x00000000#32)))
    (Host.divf (broadcastInDim S1x128x1 ![1] bcast_S128_S1x128x1_1
        (Host.reduceAdd (mulf (deviations v) (deviations v)) (constant S_ .f32 0x00000000#32) reducesTo_S4x128x784_S128_d0_2 h_S_))
      (broadcastInDim S1x128x1 ![] bcast_S_S1x128x1 count))
    (broadcastInDim S1x128x1 ![] bcast_S_S1x128x1 (id (constant S_ .f32 0x7FC00000#32)))

/-- The normalised array: centred, divided by the deviation, scaled and shifted. -/
def normal (v : FVec Ideal S4x128x784 .f32) (G B : FVec Ideal S128 .f32) : FVec Ideal S4x128x784 .f32 :=
  addf (mulf (Host.divf (deviations v) (broadcastInDim S4x128x784 ![0, 1, 2] bcast_S1x128x1_S4x128x784_0_1_2
        (Host.sqrt (addf (variances v) (broadcastInDim S1x128x1 ![] bcast_S_S1x128x1 (constant S_ .f32 0x3727C5AC#32))))))
      (broadcastInDim S4x128x784 ![0, 1, 2] bcast_S1x128x1_S4x128x784_0_1_2 (broadcastInDim S1x128x1 ![1] bcast_S128_S1x128x1_1 G)))
    (broadcastInDim S4x128x784 ![0, 1, 2] bcast_S1x128x1_S4x128x784_0_1_2 (broadcastInDim S1x128x1 ![1] bcast_S128_S1x128x1_1 B))

variable (v : FVec Ideal S4x128x784 .f32) (G B : FVec Ideal S128 .f32)

theorem means_at (d : Fin 128) : means v (ix3 0 d 0) = Ideal.div (∑ a : Fin 4, ∑ r : Fin 784, v (ix3 a d r)) rows := by
  rw [← outer_sum v d]
  unfold means
  generalize Host.reduceAdd v (constant S_ .f32 0x00000000#32) reducesTo_S4x128x784_S128_d0_2 h_S_ = s
  pointwise [rows]

theorem deviations_at (a : Fin 4) (d : Fin 128) (r : Fin 784) : deviations v (ix3 a d r) = v (ix3 a d r) - means v (ix3 0 d 0) := by
  unfold deviations
  generalize means v = s
  pointwise []

theorem count_at (i : S_.Idx) : count i = rows := by
  show rows - (((0#32 : BitVec 32).toInt : ℝ) : EReal) = rows
  simp

theorem variances_at (d : Fin 128) :
    variances v (ix3 0 d 0) = Ideal.div (∑ a : Fin 4, ∑ r : Fin 784, deviations v (ix3 a d r) * deviations v (ix3 a d r)) rows := by
  have squares : (∑ a : Fin 4, ∑ r : Fin 784, deviations v (ix3 a d r) * deviations v (ix3 a d r))
      = Host.reduceAdd (mulf (deviations v) (deviations v)) (constant S_ .f32 0x00000000#32) reducesTo_S4x128x784_S128_d0_2 h_S_ (ix1 d) :=
    (outer_sum (mulf (deviations v) (deviations v)) d).symm
  have positive : (0 : EReal) < rows := by rw [rows_eq]; exact_mod_cast (by norm_num : (0 : ℝ) < 3136)
  rw [squares]
  unfold variances
  generalize Host.reduceAdd (mulf (deviations v) (deviations v)) (constant S_ .f32 0x00000000#32) reducesTo_S4x128x784_S128_d0_2 h_S_ = s
  have hc : count = fun _ => rows := funext count_at
  rw [hc]
  have test : cmpf (F := Ideal) (s := S_) (φ := .f32) .ogt (fun _ => rows) (constant S_ .f32 0x00000000#32) = fun _ => 1#1 := by
    funext i
    show Ideal.cmp .ogt rows (Ideal.ofBits .f32 0x00000000#32) = 1#1
    have zero : Ideal.ofBits .f32 0x00000000#32 = (0 : EReal) := by simp [Ideal.ofBits, Ideal.ieee]
    rw [zero]
    simp [Ideal.cmp, positive]
  rw [test]
  pointwise []

/-- An entry of the normalised array. -/
theorem normal_at (a : Fin 4) (d : Fin 128) (r : Fin 784) :
    normal v G B (ix3 a d r) = centred (v (ix3 a d r)) (∑ a : Fin 4, ∑ r : Fin 784, v (ix3 a d r))
      (∑ a : Fin 4, ∑ r : Fin 784, (v (ix3 a d r) - Ideal.div (∑ a : Fin 4, ∑ r : Fin 784, v (ix3 a d r)) rows)
        * (v (ix3 a d r) - Ideal.div (∑ a : Fin 4, ∑ r : Fin 784, v (ix3 a d r)) rows)) (G (ix1 d)) (B (ix1 d)) := by
  have hd (a : Fin 4) (r : Fin 784) : v (ix3 a d r) - Ideal.div (∑ a : Fin 4, ∑ r : Fin 784, v (ix3 a d r)) rows = deviations v (ix3 a d r) := by
    rw [deviations_at, means_at]
  unfold centred
  simp only [hd]
  rw [← variances_at]
  unfold normal
  generalize variances v = q
  generalize deviations v = x
  pointwise [eps]

/-- The rows with their two inner axes exchanged, at an entry. -/
theorem transposed_at (X : FVec Ideal S4x784x128 .f32) (a : Fin 4) (d : Fin 128) (r : Fin 784) :
    transpose S4x128x784 [0, 2, 1] X transposes_S4x784x128_S4x128x784_0_2_1 (ix3 a d r) = X (ix3 a r d) := by
  pointwise []

/-- An entry of the normalised array, from the rows. -/
theorem normal_rows (X : FVec Ideal S4x784x128 .f32) (a : Fin 4) (d : Fin 128) (r : Fin 784) (s : EReal)
    (hs : s = ∑ a : Fin 4, ∑ r : Fin 784, X (ix3 a r d)) :
    normal (transpose S4x128x784 [0, 2, 1] X transposes_S4x784x128_S4x128x784_0_2_1) G B (ix3 a d r)
      = centred (X (ix3 a r d)) s (∑ a : Fin 4, ∑ r : Fin 784, (X (ix3 a r d) - Ideal.div s rows) * (X (ix3 a r d) - Ideal.div s rows))
          (G (ix1 d)) (B (ix1 d)) := by
  have entry := transposed_at X
  generalize transpose S4x128x784 [0, 2, 1] X transposes_S4x784x128_S4x128x784_0_2_1 = v at entry ⊢
  rw [normal_at]
  simp only [entry, ← hs]

end Cert.Reference2Ideal.Bn
end
end
-- ==== Proof.PrepBody.lean ====
module

public import proofs.«01_k».proof.Proof.Gen.Kernel3Ideal.Frame
public import proofs.«01_k».proof.Proof.Gen.Kernel3Ideal.Skeleton
public import Idealize.ShloMosaic.Lib.VecWindow
public import Idealize.ShloMosaic.Lib.Claim

/-!
# The preparing call, one grid point at a time

The preparing call transposes one block of its input per grid point, and at the first grid point also
transposes the two tables, whose windows stay in place until they are written back after the last point.
-/

@[expose] public section

set_option maxRecDepth 16384

noncomputable section

namespace Cert.Kernel3Ideal.Prep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A store of a whole buffer leaves the stored array, computed from a load of another whole buffer. -/
theorem stored {s s' : Shape} {e e' : EltTy} (a : Memref sig .tc .vmem s e) (h : a.IsWhole) (b : Memref sig .tc .vmem s' e')
    (f : b.view.ty.Contents (Elt F)) (x : s.Idx → Elt F e) (pay : (s.Idx → Elt F e) → (s'.Idx → Elt F e')) {o : Fin s.rank → ℕ}
    {o' : Fin s'.rank → ℕ} (i : ∀ k, o k + s.size k ≤ s.size k) (i' : ∀ k, o' k + s'.size k ≤ s'.size k) :
    b.view.read (Elt F) (b.view.writes (Elt F) f [⟨Rect.unit o' s'.size i',
      pay (a.view.readAt (Elt F) (Rect.unit o s.size i).toLoadRect (h.unread x))⟩]) = pay x := by
  rw [View.read_writes_full, View.readAt_full, h.read_unread]

/-- At a grid point where the tables are not transposed, the body leaves the transposed block and touches neither table's result. -/
theorem later (c : Dev nD) (i : grid0.Coords) (a1 : Memref sig .tc .vmem S576x784 .f32) (h1 : a1.IsWhole)
    (a2 : Memref sig .tc .vmem S512x576 .f32) (h2 : a2.IsWhole) (a3 : Memref sig .tc .vmem S512x576 .f32) (h3 : a3.IsWhole)
    (a4 : Memref sig .tc .vmem S784x576 .f32) (h4 : a4.IsWhole) (a5 : Memref sig .tc .vmem S576x512 .f32) (h5 : a5.IsWhole)
    (a6 : Memref sig .tc .vmem S576x512 .f32) (h6 : a6.IsWhole) (hc : ¬k0_cond1 i = 1#1) (x : Vec F S576x784 .f32)
    (E : Set ℕ) (K : PUnit → sProp 𝕄) :
    iprop(owns (c : Thread nD τ) a1 fullShare x ∗ (∃ d, owns (c : Thread nD τ) a4 fullShare d)
        ∗ (iprop(owns (c : Thread nD τ) a1 fullShare x ∗ owns (c : Thread nD τ) a4 fullShare (k0_pay1 x)) -∗ K ⟨⟩))
      ⊢ wp frame (wpE (defs₀ (F := F)) Variants.none c none) E (cc0__prep_body i a1 h1 a2 h2 a3 h3 a4 h4 a5 h5 a6 h6) K := by
  simp only [cc0__prep_body_eq_skeleton]; unfold cc0__prep_body_skel
  unfold owns
  iintro ⟨⟨%f1, %e1, H1⟩, ⟨%d4, %f4, -, H4⟩, Hk⟩
  obtain rfl := h1.eq_unread e1
  sl_exec (disch := sl_exact hc)
  sl_step
  iapply Hk
  isplitl [H1]
  · iexists _; isplitr; · ipureintro; exact h1.read_unread _
    iexact H1
  iexists _; isplitr
  swap; · iexact H4
  ipureintro
  exact stored a1 h1 a4 _ x k0_pay1 _ _

/-- At the grid point where the tables are transposed, the body leaves all three transposed arrays. -/
theorem first (c : Dev nD) (i : grid0.Coords) (a1 : Memref sig .tc .vmem S576x784 .f32) (h1 : a1.IsWhole)
    (a2 : Memref sig .tc .vmem S512x576 .f32) (h2 : a2.IsWhole) (a3 : Memref sig .tc .vmem S512x576 .f32) (h3 : a3.IsWhole)
    (a4 : Memref sig .tc .vmem S784x576 .f32) (h4 : a4.IsWhole) (a5 : Memref sig .tc .vmem S576x512 .f32) (h5 : a5.IsWhole)
    (a6 : Memref sig .tc .vmem S576x512 .f32) (h6 : a6.IsWhole) (hc : k0_cond1 i = 1#1) (x : Vec F S576x784 .f32)
    (y z : Vec F S512x576 .f32) (E : Set ℕ) (K : PUnit → sProp 𝕄) :
    iprop(owns (c : Thread nD τ) a1 fullShare x ∗ owns (c : Thread nD τ) a2 fullShare y ∗ owns (c : Thread nD τ) a3 fullShare z
        ∗ (∃ d, owns (c : Thread nD τ) a4 fullShare d) ∗ (∃ d, owns (c : Thread nD τ) a5 fullShare d)
        ∗ (∃ d, owns (c : Thread nD τ) a6 fullShare d)
        ∗ (iprop(owns (c : Thread nD τ) a1 fullShare x ∗ owns (c : Thread nD τ) a2 fullShare y ∗ owns (c : Thread nD τ) a3 fullShare z
            ∗ owns (c : Thread nD τ) a4 fullShare (k0_pay1 x) ∗ owns (c : Thread nD τ) a5 fullShare (k0_pay2 y)
            ∗ owns (c : Thread nD τ) a6 fullShare (k0_pay3 z)) -∗ K ⟨⟩))
      ⊢ wp frame (wpE (defs₀ (F := F)) Variants.none c none) E (cc0__prep_body i a1 h1 a2 h2 a3 h3 a4 h4 a5 h5 a6 h6) K := by
  simp only [cc0__prep_body_eq_skeleton]; unfold cc0__prep_body_skel
  unfold owns
  iintro ⟨⟨%f1, %e1, H1⟩, ⟨%f2, %e2, H2⟩, ⟨%f3, %e3, H3⟩, ⟨%d4, %f4, -, H4⟩, ⟨%d5, %f5, -, H5⟩, ⟨%d6, %f6, -, H6⟩, Hk⟩
  obtain rfl := h1.eq_unread e1; obtain rfl := h2.eq_unread e2; obtain rfl := h3.eq_unread e3
  sl_exec (disch := sl_exact hc)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr
    swap; · iexact H4
    ipureintro
    exact stored a1 h1 a4 _ x k0_pay1 _ _
  isplitl [H5]
  · iexists _; isplitr
    swap; · iexact H5
    ipureintro
    exact stored a2 h2 a5 _ y k0_pay2 _ _
  iexists _; isplitr
  swap; · iexact H6
  ipureintro
  exact stored a3 h3 a6 _ z k0_pay3 _ _

/-- The first grid point. -/
abbrev start : Fin cfg0.N := ⟨0, by decide⟩

/-- The tables are transposed at the first grid point alone. -/
theorem at_start : ∀ t : Fin cfg0.N, k0_cond1 (grid0.coords t) = 1#1 ↔ t.val = 0 := by decide +kernel

/-- What each window holds after each grid point: the inputs their blocks, the first result the transposed block, and the tables'
    results the transposed tables from the first point on. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay1 (iblk m c 0 t)
    | ⟨4, _⟩ => k0_pay2 (iblk m c 1 start)
    | ⟨5, _⟩ => k0_pay3 (iblk m c 2 start)
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay1 (iblk m c 0 t) := by dsimp only [dats]
theorem after_4 (c : Dev nD) (t : Fin cfg0.N) : (dats m 0 c).after 4 t = k0_pay2 (iblk m c 1 start) := by dsimp only [dats]
theorem after_5 (c : Dev nD) (t : Fin cfg0.N) : (dats m 0 c).after 5 t = k0_pay3 (iblk m c 2 start) := by dsimp only [dats]

/-- A result that is written at the first point alone, and back to its array after the last, is still there at every later point. -/
theorem held {c : Dev nD} (dat : Dat τ (Elt F) Unit ℕ (UR sig nD τ) ℕ cfg0 c) (w : Fin cfg0.W) (hw : (cfg0.win w).isOut = true)
    (hf : ∀ t, (cfg0.win w).flush t = true ↔ t.val % 4 = 3) (hl : cfg0.idle w (cfg0.grid.coords start) = false)
    (X : (cfg0.win w).block.Idx → Elt F (cfg0.win w).elt) (hk : ∀ t d, dat.kept w t d = X) (d) :
    ∀ t : Fin cfg0.N, t.val ≠ 0 → dat.before w t d = X := by
  intro ⟨n, hn⟩
  have h4 : n < 4 := lt_of_lt_of_eq hn (show cfg0.N = 4 from N_0)
  induction n with
  | zero => intro h; exact absurd rfl h
  | succ n ih =>
    intro h
    have hp : ¬(cfg0.win w).flush ⟨n, Nat.lt_of_succ_lt hn⟩ = true := fun e => by
      have := (hf _).mp e
      simp only at this; omega
    rw [dat.before_of_pos w _ h ((cfg0.win w).fetch_out hw _)]
    simp only [Nat.add_sub_cancel]
    rw [if_neg hp]
    unfold Dat.left
    cases hi : cfg0.idle w (cfg0.grid.coords ⟨n, Nat.lt_of_succ_lt hn⟩)
    · exact hk _ _
    · refine ih (Nat.lt_of_succ_lt hn) (by omega) fun e => ?_
      have e' : (⟨n, Nat.lt_of_succ_lt hn⟩ : Fin cfg0.N) = start := Fin.ext e
      rw [e', hl] at hi
      exact absurd hi (by decide)

/-- A buffer at what the proof data name is what the body owes of it, where the body wrote it or found it so. -/
theorem owed_of {c : Dev nD} (dat : Dat τ (Elt F) Unit ℕ (UR sig nD τ) ℕ cfg0 c) (w : Fin cfg0.W) (t : Fin cfg0.N)
    (h : cfg0.idle w (cfg0.grid.coords t) = false ∨ ∀ d, dat.before w t d = dat.after w t) :
    (owns (c : Thread nD τ) ((cfg0.win w).stage (cfg0.slots t w)) fullShare (dat.after w t) : sProp 𝕄) ⊢ dat.leavesExact w t := by
  unfold Dat.leavesExact
  rcases h with h | h
  · rw [h]
  · cases cfg0.idle w (cfg0.grid.coords t)
    · exact .rfl
    · cases (cfg0.win w).flush t
      · iintro H
        iexists (dat.after w t)
        rw [h]
        iexact H
      · exact .rfl

theorem held_4 (c : Dev nD) (t : Fin cfg0.N) (h : t.val ≠ 0) (d) : (dats m 0 c).before 4 t d = (dats m 0 c).after 4 t :=
  (held (dats m 0 c) 4 rfl flush0_4 (by decide +kernel) (k0_pay2 (iblk m c 1 start)) (fun _ _ => rfl) d t h).trans (after_4 m c t).symm

theorem held_5 (c : Dev nD) (t : Fin cfg0.N) (h : t.val ≠ 0) (d) : (dats m 0 c).before 5 t d = (dats m 0 c).after 5 t :=
  (held (dats m 0 c) 5 rfl flush0_5 (by decide +kernel) (k0_pay3 (iblk m c 2 start)) (fun _ _ => rfl) d t h).trans (after_5 m c t).symm

/-- What the body finds at a grid point. -/
def found (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What the body leaves at a grid point. -/
def left (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- The body takes what it finds to what it leaves, at every grid point. -/
theorem sound (c : Dev nD) (t : Fin cfg0.N) :
    found m c t ⊢ wp frame (wpE (defs₀ (F := F)) Variants.none c none) Set.univ (bodyAt0 t) (fun _ => left m c t) := by
  unfold found left bodyAt0
  simp only [before0_0_of m (dats m 0 c) (A_eq m c 0) (after_0 m c), before0_1_of m (dats m 0 c) (A_eq m c 1) (after_1 m c),
    before0_2_of m (dats m 0 c) (A_eq m c 2) (after_2 m c)]
  rw [show (dats m 0 c).Φ t.succ = (dats m 0 c).Φ t.castSucc from rfl,
    show (dats m 0 c).owesAt () t.succ = (dats m 0 c).owesAt () t.castSucc from rfl]
  have o0 := owed_of (dats m 0 c) 0 t (.inl rfl)
  have o1 := owed_of (dats m 0 c) 1 t (.inl rfl)
  have o2 := owed_of (dats m 0 c) 2 t (.inl rfl)
  have o3 := owed_of (dats m 0 c) 3 t (.inl rfl)
  rw [after_0] at o0
  rw [after_1] at o1
  rw [after_2] at o2
  rw [after_3] at o3
  by_cases hz : t.val = 0
  · obtain rfl : t = start := Fin.ext hz
    have o4 := owed_of (dats m 0 c) 4 start (.inl (by decide +kernel))
    have o5 := owed_of (dats m 0 c) 5 start (.inl (by decide +kernel))
    rw [after_4] at o4
    rw [after_5] at o5
    iintro ⟨HΦ, Ho, ⟨%d0, H0⟩, ⟨%d1, H1⟩, ⟨%d2, H2⟩, ⟨%d3, H3⟩, ⟨%d4, H4⟩, ⟨%d5, H5⟩⟩
    iapply (first c (grid0.coords start) _ _ _ _ _ _ _ _ _ _ _ _ ((at_start _).mpr rfl) (iblk m c 0 start) (iblk m c 1 start)
      (iblk m c 2 start) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iapply o0; iexact H0
    isplitl [H1]; · iapply o1; iexact H1
    isplitl [H2]; · iapply o2; iexact H2
    isplitl [H3]; · iapply o3; iexact H3
    isplitl [H4]; · iapply o4; iexact H4
    iapply o5; iexact H5
  · have o4 := owed_of (dats m 0 c) 4 t (.inr (held_4 m c t hz))
    have o5 := owed_of (dats m 0 c) 5 t (.inr (held_5 m c t hz))
    simp only [held_4 m c t hz, held_5 m c t hz]
    iintro ⟨HΦ, Ho, ⟨%d0, H0⟩, ⟨%d1, H1⟩, ⟨%d2, H2⟩, ⟨%d3, H3⟩, ⟨%d4, H4⟩, ⟨%d5, H5⟩⟩
    iapply (later c (grid0.coords t) _ _ _ _ _ _ _ _ _ _ _ _ (fun e => hz ((at_start t).mp e)) (iblk m c 0 t) Set.univ _)
    isplitl [H0]; · iexact H0
    isplitl [H3]; · iexists _; iexact H3
    iintro ⟨H0, H3⟩
    isplitl [HΦ]; · iexact HΦ
    isplitl [Ho]; · iexact Ho
    isplitl [H0]; · iapply o0; iexact H0
    isplitl [H1]; · iapply o1; iexact H1
    isplitl [H2]; · iapply o2; iexact H2
    isplitl [H3]; · iapply o3; iexact H3
    isplitl [H4]; · iapply o4; iexact H4
    iapply o5; iexact H5

theorem row (t : Fin cfg0.N) : defs₀ (F := F) .tc cfg0.body (cfg0.bodyArgs t (cfg0.slots t)) = bodyAt0 t := by
  unfold defs₀; rw [Defs.onTc_tc]

/-- The pipeline's obligation of the body. -/
theorem obligation (c : Dev nD) : BodyObligation (dats (F := F) m 0 c) (defs₀ (F := F)) Variants.none () Set.univ := fun t => by
  rw [bigSep_W0, bigSep_W0, row]
  exact triple_restated (sound m c t) rfl .rfl fun _ => .rfl

set_option backward.isDefEq.respectTransparency.types false in
set_option maxHeartbeats 800000 in
/-- The program runs to the arrays that the proof data name, with every semaphore counter at zero. -/
theorem run : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The program leaves its arguments as it found them and every semaphore counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.Kernel3Ideal.Prep

end
-- ==== Proof.PrepFrame.lean ====
/- The preparing call at every float instance: the printed program and its reading over the extended reals are one program. -/
module

public import proofs.«01_k».proof.Proof.PrepBody
public import proofs.«01_k».proof.Proof.Gen.Kernel3
public import proofs.«01_k».proof.Defs

@[expose] public section

set_option maxRecDepth 65536

noncomputable section

namespace Cert.Kernel3.Prep

open Cert.Kernel3 Idealize.ShloMosaic Idealize.ShloMosaic.TcCoe Idealize.SL.Sem
attribute [local instance] Cert.Kernel3.Gen.facts Cert.Kernel3Ideal.Gen.facts

/-- The two programs call one body. -/
theorem defs₀_eq : defs₀ (F := Bits) = Cert.Kernel3Ideal.defs₀ := by
  funext p l a
  cases p
  · match l, a with
    | ⟨0, _⟩, ⟨t, s⟩ => rfl
  · rfl
  · rfl

theorem defs_eq : defs (F := Bits) = Cert.Kernel3Ideal.defs :=
  congrArg (Pipeline.defs (Cert.Kernel3Ideal.pcfgs (F := Bits))) defs₀_eq

/-- The printed program leaves its arguments as it found them and every semaphore counter at zero. -/
theorem quiet (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq]
  exact Cert.Kernel3Ideal.Prep.quiet (F := Bits) m ρ

end Cert.Kernel3.Prep

end
-- ==== Proof.PrepGrid.lean ====
/- The preparing call: what its three results hold at the end. -/
module

public import proofs.«01_k».proof.Proof.PrepBody
public import Idealize.ShloMosaic.Lib.Pipeline.ValueKit
public import Idealize.ShloMosaic.PureOps.Ideal

@[expose] public section

set_option maxRecDepth 16384

noncomputable section

namespace Cert.Kernel3Ideal.Prep

open Cert.Kernel3Ideal Cert.Kernel3Ideal.Gen Idealize.ShloMosaic Idealize.ShloMosaic.TcCoe Idealize.SL.Sem

variable (m : (ℓ : Loc nD τ sig) → Buf (Elt Ideal) ℓ) (ρ : Dev nD → PrngReg) (c : Dev nD)

/-- The unfolded image: per image one column of 576 values for each of its 784 positions. -/
def unfolded : FVec Ideal S4x576x784 .f32 := V m c main_v20

/-- The columns of the four images as rows, one below the other. -/
def patches (Y : FVec Ideal S4x576x784 .f32) : FVec Ideal S3136x576 .f32 :=
  fun i => Y (ix3 ⟨(i 0).val / 784, by have : (i 0).val < 3136 := (i 0).isLt; omega⟩ (i 1) ⟨(i 0).val % 784, Nat.mod_lt _ (by omega)⟩)

/-- A table with its rows and columns exchanged. -/
def turned (T : FVec Ideal S512x576 .f32) : FVec Ideal S576x512 .f32 := fun i => T (ix2 (i 1) (i 0))

theorem entry : V m c main_v21 = shapeCast S2304x784 (unfolded m c) shapeCasts_S4x576x784_S2304x784 := by
  unfold unfolded V hostOps0 hostOps0_1 hostOps0_2
  after_results_simp
  rfl

/-- Which block each window holds at point `t`. -/
theorem idx : ∀ t : Fin cfg0.N, win0_0.index t = ![t.val, 0] ∧ win0_1.index t = ![0, 0] ∧ win0_2.index t = ![0, 0]
    ∧ win0_3.index t = ![t.val, 0] ∧ win0_4.index t = ![0, 0] ∧ win0_5.index t = ![0, 0] :=
  (by decide +kernel : ∀ t : Fin grid0.N, _)

/-- The image that point `t` transposes. -/
def image (t : Fin cfg0.N) : Fin 4 := ⟨t.val, lt_of_lt_of_eq t.isLt (show cfg0.N = 4 from N_0)⟩

theorem iblk0_at (t : Fin cfg0.N) (d : Fin 576) (r : Fin 784) :
    (iblk m c 0 t : Vec Ideal S576x784 .f32) (ix2 d r) = unfolded m c (ix3 (image t) d r) := by
  have e : (iblk m c 0 t : Vec Ideal S576x784 .f32) (ix2 d r)
      = V m c main_v21 (ix2 ⟨t.val * 576 + d.val, by have := (image t).isLt; simp only [image] at this; omega⟩ r) := by
    blk_ext! [iblk, idx t]
  rw [e, entry]
  pointwise [image]

theorem iblk1 (t : Fin cfg0.N) : iblk m c 1 t = m ((c : Thread nD τ).loc main_arg1) := by
  rw [← V_main_arg1 m c]
  blk_ext! [iblk, idx t]
theorem iblk2 (t : Fin cfg0.N) : iblk m c 2 t = m ((c : Thread nD τ).loc main_arg2) := by
  rw [← V_main_arg2 m c]
  blk_ext! [iblk, idx t]

theorem pay1_at (x : Vec Ideal S576x784 .f32) (r : Fin 784) (d : Fin 576) : k0_pay1 x (ix2 r d) = x (ix2 d r) := by
  unfold k0_pay1; pointwise []
theorem pay2_eq (x : Vec Ideal S512x576 .f32) : k0_pay2 x = turned x := by
  funext i
  obtain ⟨d, k, rfl⟩ : ∃ (d : Fin 576) (k : Fin 512), i = ix2 d k := ⟨i 0, i 1, (ix2_eta i).symm⟩
  unfold k0_pay2 turned; pointwise []
theorem pay3_eq (x : Vec Ideal S512x576 .f32) : k0_pay3 x = turned x := by
  exact pay2_eq x

/-- The first result ends as the patches, one row each. -/
theorem patches_end : (dats m 0 c).arrAt 3 cfg0.N = patches (unfolded m c) := by
  refine (dats m 0 c).arrAt_eq_of_covers 3 _ (by decide +kernel) fun t hf y => ?_
  blk_simp
  rw [after_3]
  obtain ⟨r, d, rfl⟩ : ∃ (r : Fin 784) (d : Fin 576), y = (ix2 r d : S784x576.Idx) := ⟨y 0, y 1, (ix2_eta y).symm⟩
  have e : (win0_3.blk t).view.emb (ix2 r d : S784x576.Idx)
      = (ix2 ⟨t.val * 784 + r.val, by have := (image t).isLt; simp only [image] at this; omega⟩ d : S3136x576.Idx) := by
    blk_ext! [idx t]
  rw [e, pay1_at, iblk0_at]
  refine congrArg (unfolded m c) (congrArg₂ (fun a b => ix3 a d b) (Fin.ext ?_) (Fin.ext ?_))
  · show t.val = (t.val * 784 + r.val) / 784
    omega
  · show r.val = (t.val * 784 + r.val) % 784
    omega

/-- The second result ends as the first table turned. -/
theorem table_end : (dats m 0 c).arrAt 4 cfg0.N = turned (m ((c : Thread nD τ).loc main_arg1)) := by
  refine (dats m 0 c).arrAt_eq_of_covers 4 _ (by decide +kernel) fun t hf y => ?_
  blk_simp
  rw [after_4, iblk1, pay2_eq]
  refine congrArg _ (?_ : y = (win0_4.blk t).view.emb y)
  blk_ext! [idx t]

/-- The third result ends as the second table turned. -/
theorem residual_end : (dats m 0 c).arrAt 5 cfg0.N = turned (m ((c : Thread nD τ).loc main_arg2)) := by
  refine (dats m 0 c).arrAt_eq_of_covers 5 _ (by decide +kernel) fun t hf y => ?_
  blk_simp
  rw [after_5, iblk2, pay3_eq]
  refine congrArg _ (?_ : y = (win0_5.blk t).view.emb y)
  blk_ext! [idx t]

end Cert.Kernel3Ideal.Prep

end
-- ==== Proof.PrepRef.lean ====
/- The preparing call against the plain unfolding and the plain transposes. -/
module

public import proofs.«01_k».proof.Proof.PrepGrid
public import proofs.«01_k».proof.Proof.Gen.Reference3Ideal.Run

@[expose] public section

set_option maxRecDepth 16384

noncomputable section

namespace Cert.Reference3Ideal.Prep

open Cert.Reference3Ideal Cert.Reference3Ideal.Gen Idealize.ShloMosaic Idealize.ShloMosaic.TcCoe Idealize.SL.Sem
open Cert.Kernel3Ideal.Prep (unfolded patches turned)

/-- A column per position, read as rows one image below the other. -/
theorem rows_eq (Y : FVec Ideal S4x576x784 .f32) :
    shapeCast S3136x576 (transpose S4x784x576 [0, 2, 1] Y transposes_S4x576x784_S4x784x576_0_2_1) shapeCasts_S4x784x576_S3136x576
      = patches Y := by
  funext i
  obtain ⟨n, d, rfl⟩ : ∃ (n : Fin 3136) (d : Fin 576), i = ix2 n d := ⟨i 0, i 1, (ix2_eta i).symm⟩
  unfold patches
  pointwise []

/-- A transposed table. -/
theorem turned_eq (T : FVec Ideal S512x576 .f32) : transpose S576x512 [1, 0] T transposes_S512x576_S576x512_1_0 = turned T := by
  funext i
  obtain ⟨d, k, rfl⟩ : ∃ (d : Fin 576) (k : Fin 512), i = ix2 d k := ⟨i 0, i 1, (ix2_eta i).symm⟩
  unfold turned
  pointwise []

/-- Both programs unfold the same image to the same columns. -/
theorem patches_eq (m : (ℓ : Loc Cert.Kernel3Ideal.nD Cert.Kernel3Ideal.τ Cert.Kernel3Ideal.sig) → Buf (Elt Ideal) ℓ)
    (m' : (ℓ : Loc nD τ sig) → Buf (Elt Ideal) ℓ) (c : Dev nD)
    (h : m' ((c : Thread nD τ).loc main_arg0)
      = m ((c : Thread Cert.Kernel3Ideal.nD Cert.Kernel3Ideal.τ).loc Cert.Kernel3Ideal.main_arg0)) :
    Value.res_main_v22 m' c = patches (unfolded m c) := by
  rw [← rows_eq]
  unfold Value.res_main_v22
  rw [h]
  refine congrArg (fun Y => shapeCast S3136x576 (transpose S4x784x576 [0, 2, 1] Y transposes_S4x576x784_S4x784x576_0_2_1)
    shapeCasts_S4x784x576_S3136x576) ?_
  unfold unfolded Cert.Kernel3Ideal.Gen.V
  simp only [Cert.Kernel3Ideal.Gen.hostOps0, Cert.Kernel3Ideal.Gen.hostOps0_1, Cert.Kernel3Ideal.Gen.hostOps0_2, List.flatten_cons,
    List.flatten_nil, List.append_nil, List.cons_append, List.nil_append, StableHlo.TRef.binary, StableHlo.TRef.unary, StableHlo.TRef.toBuf,
    StableHlo.TRef.ofBuf, cast_eq]
  after_results <;> rfl

end Cert.Reference3Ideal.Prep

end
-- ==== Proof.lean ====
/- The claims about the three launches of the kernel, a program each: every program runs and leaves its arguments and its semaphores
   as it found them, and over the extended reals the results are those of the plain references: of the preparing launch always, of the
   vector-quantising launch wherever the two output tables are finite, of the normalising launch wherever its statistics are the rows'. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.VqGrid
public import proofs.«01_k».proof.Proof.RefTotal
public import proofs.«01_k».proof.Proof.RefRun
public import proofs.«01_k».proof.Proof.TablesFinite
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.StatsOfRows
public import proofs.«01_k».proof.Proof.BnGrid
public import proofs.«01_k».proof.Proof.BnRef
public import proofs.«01_k».proof.Proof.PrepFrame
public import proofs.«01_k».proof.Proof.PrepRef
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

section
open Cert.ReferenceIdeal Cert.ReferenceIdeal.Ref
variable (m : (ℓ : Loc nD τ sig) → Buf (Elt Ideal) ℓ)

/-- An argument of the reference after all its operations. -/
theorem arg_kept (c : Dev nD) (b : Ref sig .tc) (h : b ∈ ([main_arg0, main_arg1, main_arg2, main_arg3, main_arg4] : List (Ref sig .tc))) :
    StableHlo.after line (StableHlo.launchContents m c) (Proc.devRef .tc b) = m ((c.tc : Thread nD τ).loc b) :=
  (line_kept _ b h).trans (StableHlo.launchContents_devRef m c b)

/-- The reference runs and leaves its arguments and its semaphores as it found them. -/
theorem reference_quiescent : Cert.quiescent_ReferenceIdeal (hReferenceIdeal := Cert.ReferenceIdeal.Gen.facts) := fun m g _ =>
  θ_run_mono (run m g) fun r h =>
    ⟨fun c => ⟨(h c main_arg0).trans (arg_kept m c _ (by decide)), (h c main_arg1).trans (arg_kept m c _ (by decide)),
      (h c main_arg2).trans (arg_kept m c _ (by decide)), (h c main_arg3).trans (arg_kept m c _ (by decide)),
      (h c main_arg4).trans (arg_kept m c _ (by decide))⟩, sem_eq_zero_of_no_sems (by decide) r.2⟩

end

/-- Where the two output tables are finite, the kernel's results are the reference's. -/
theorem equal : Cert.algebraic_KernelIdeal_ReferenceIdeal_pre_tables_finite (hKernelIdeal := Cert.KernelIdeal.Gen.facts)
    (hReferenceIdeal := Cert.ReferenceIdeal.Gen.facts) (hPre_tables_finite := Cert.Pre_tables_finite.facts) := by
  intro m g m' g' hpre hagree
  haveI := Cert.Pre_tables_finite.facts
  refine ⟨_, _, θ_run_mono (Cert.KernelIdeal.Value.run_blocks m g) fun r h c => ⟨(h c).1.trans (Cert.KernelIdeal.Vq.vals_end m c),
    (h c).2.1.trans (Cert.KernelIdeal.Vq.stats_end m c), (h c).2.2⟩,
    θ_run_mono (Cert.ReferenceIdeal.Ref.run m' g') fun r h c => ⟨(h c Cert.ReferenceIdeal.main_v47).trans ?_,
      (h c Cert.ReferenceIdeal.main_v46).trans ?_,
      (h c Cert.ReferenceIdeal.main_arg0).trans (arg_kept m' c _ (by decide)), (h c Cert.ReferenceIdeal.main_arg1).trans (arg_kept m' c _ (by decide)),
      (h c Cert.ReferenceIdeal.main_arg2).trans (arg_kept m' c _ (by decide)), (h c Cert.ReferenceIdeal.main_arg3).trans (arg_kept m' c _ (by decide)),
      (h c Cert.ReferenceIdeal.main_arg4).trans (arg_kept m' c _ (by decide))⟩⟩
  all_goals
    obtain ⟨h0, h1, h2, h3, h4⟩ := hagree c
    have fin := Cert.Pre_tables_finite.entries _ _ _ _ _ (hpre c)
  · refine (Cert.ReferenceIdeal.Ref.line_v47 _).trans ?_
    unfold Cert.ReferenceIdeal.Ref.rowsAt
    rw [(StableHlo.launchContents_devRef m' c _).trans h0, (StableHlo.launchContents_devRef m' c _).trans h1,
      (StableHlo.launchContents_devRef m' c _).trans h2, (StableHlo.launchContents_devRef m' c _).trans h3,
      (StableHlo.launchContents_devRef m' c _).trans h4]
    exact Cert.ReferenceIdeal.Ref.vals_total _ _ _ _ _ (fun i => (fin i).1) (fun i => (fin i).2)
  · refine (Cert.ReferenceIdeal.Ref.line_v46 _).trans ?_
    unfold Cert.ReferenceIdeal.Ref.rowsAt
    rw [(StableHlo.launchContents_devRef m' c _).trans h0, (StableHlo.launchContents_devRef m' c _).trans h1,
      (StableHlo.launchContents_devRef m' c _).trans h2, (StableHlo.launchContents_devRef m' c _).trans h3,
      (StableHlo.launchContents_devRef m' c _).trans h4]
    exact Cert.ReferenceIdeal.Ref.stats_total _ _ _ _ _ (fun i => (fin i).1) (fun i => (fin i).2)

/-- The plain normalisation runs and leaves its arguments and its semaphores as it found them. -/
theorem reference2_quiescent : Cert.quiescent_Reference2Ideal (hReference2Ideal := Cert.Reference2Ideal.Gen.facts) := fun m g _ =>
  θ_run_mono (Cert.Reference2Ideal.Value.run m g) fun r h => ⟨fun c => (h c).2, sem_eq_zero_of_no_sems (by decide) r.2⟩

/-- Where the rows and the factor are finite and the statistics are the rows' sums and sums of squares, the normalising kernel's
    result is the plain normalisation. -/
theorem equal2 : Cert.algebraic_Kernel2Ideal_Reference2Ideal_pre_stats_of_rows (hKernel2Ideal := Cert.Kernel2Ideal.Gen.facts)
    (hReference2Ideal := Cert.Reference2Ideal.Gen.facts) (hPre_stats_of_rows := Cert.Pre_stats_of_rows.facts) := by
  intro m g m' g' hpre hagree
  haveI := Cert.Pre_stats_of_rows.facts
  refine ⟨_, θ_run_mono (Cert.Kernel2Ideal.Value.run_blocks m g) fun r h c => ⟨(h c).1.trans (Cert.Kernel2Ideal.Bn.out_end m c), (h c).2⟩,
    θ_run_mono (Cert.Reference2Ideal.Value.run m' g') fun r h c => ⟨(h c).1.trans ?_, (h c).2⟩⟩
  obtain ⟨h0, h1, h2, h3⟩ := hagree c
  obtain ⟨finite, factor, sums, squares⟩ := Cert.Pre_stats_of_rows.parts _ _ _ _ (hpre c)
  rw [h0, h2, h3]
  funext i
  obtain ⟨a, d, r, rfl⟩ : ∃ (a : Fin 4) (d : Fin 128) (r : Fin 784), i = ix3 a d r := ⟨i 0, i 1, i 2, (ix3_eta i).symm⟩
  exact (Cert.Reference2Ideal.Bn.normal_rows _ _ _ a d r _ (sums d)).trans (Cert.Bn.scaled_eq_centred
    (fun a r => m ((c.tc : Thread Cert.Kernel2Ideal.nD Cert.Kernel2Ideal.τ).loc Cert.Kernel2Ideal.main_arg0) (ix3 a r d))
    _ _ _ _ (fun a r => finite (ix3 a r d)) (factor (ix1 d)) (sums d) (squares d) a r).symm

/-- The plain unfolding and transposes run and leave their arguments and semaphores as they found them. -/
theorem reference3_quiescent : Cert.quiescent_Reference3Ideal (hReference3Ideal := Cert.Reference3Ideal.Gen.facts) := fun m g _ =>
  θ_run_mono (Cert.Reference3Ideal.Value.run m g) fun r h => ⟨fun c => (h c).2.2.2, sem_eq_zero_of_no_sems (by decide) r.2⟩

/-- The preparing kernel's results are the plain patches and the plain transposes of the tables. -/
theorem equal3 : Cert.algebraic_Kernel3Ideal_Reference3Ideal (hKernel3Ideal := Cert.Kernel3Ideal.Gen.facts)
    (hReference3Ideal := Cert.Reference3Ideal.Gen.facts) := by
  intro m g m' g' _ hagree
  refine ⟨_, _, _, θ_run_mono (θ_run_and (Cert.Kernel3Ideal.Prep.run m g) (Cert.Kernel3Ideal.Prep.quiet m g)) fun r h c =>
      ⟨((h.1.1 c).1 3).trans (Cert.Kernel3Ideal.Prep.patches_end m c), ((h.1.1 c).1 4).trans (Cert.Kernel3Ideal.Prep.table_end m c),
        ((h.1.1 c).1 5).trans (Cert.Kernel3Ideal.Prep.residual_end m c), h.2.1 c⟩,
    θ_run_mono (Cert.Reference3Ideal.Value.run m' g') fun r h c => ⟨(h c).1.trans ?_, (h c).2.1.trans ?_, (h c).2.2.1.trans ?_, (h c).2.2.2⟩⟩
  all_goals obtain ⟨h0, h1, h2⟩ := hagree c
  · exact Cert.Reference3Ideal.Prep.patches_eq m m' c h0
  · exact (Cert.Reference3Ideal.Prep.turned_eq _).trans (congrArg _ h1)
  · exact (Cert.Reference3Ideal.Prep.turned_eq _).trans (congrArg _ h2)

/-- Everything that is claimed. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Pre_tables_finite.facts, Cert.Pre_stats_of_rows.facts,
    fun m g _ => Cert.Kernel.Gen.frame m g, fun m g _ => Cert.KernelIdeal.Gen.frame m g, fun m g _ => Cert.KernelIdeal.Gen.frame m g,
    reference_quiescent, fun m g _ => reference_quiescent m g trivial,
    fun m g _ => Cert.Kernel2.Gen.frame m g, fun m g _ => Cert.Kernel2Ideal.Gen.frame m g, fun m g _ => Cert.Kernel2Ideal.Gen.frame m g,
    reference2_quiescent, fun m g _ => reference2_quiescent m g trivial,
    fun m g _ => Cert.Kernel3.Prep.quiet m g, fun m g _ => Cert.Kernel3Ideal.Prep.quiet m g, reference3_quiescent,
    trivial, equal, trivial, equal2, trivial, equal3⟩

end Cert.Proof

end
